-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x384x384 : Shape := ⟨4, ![2, 96, 384, 384]⟩
abbrev S384x384x3 : Shape := ⟨3, ![384, 384, 3]⟩
abbrev S384 : Shape := ⟨1, ![384]⟩
abbrev S9 : Shape := ⟨1, ![9]⟩
abbrev S2x96x192x2x192x2 : Shape := ⟨6, ![2, 96, 192, 2, 192, 2]⟩
abbrev S2x96x2x2x192x192 : Shape := ⟨6, ![2, 96, 2, 2, 192, 192]⟩
abbrev S2x384x36864 : Shape := ⟨3, ![2, 384, 36864]⟩
abbrev S_ : Shape := ⟨0, ![]⟩
abbrev S9x1 : Shape := ⟨2, ![9, 1]⟩
abbrev S2x384x9 : Shape := ⟨3, ![2, 384, 9]⟩
abbrev S3x384x384 : Shape := ⟨3, ![3, 384, 384]⟩
abbrev S384x1 : Shape := ⟨2, ![384, 1]⟩
abbrev S1x384x512 : Shape := ⟨3, ![1, 384, 512]⟩
abbrev S1x384x9 : Shape := ⟨3, ![1, 384, 9]⟩
abbrev S384x27 : Shape := ⟨2, ![384, 27]⟩
abbrev S384x9 : Shape := ⟨2, ![384, 9]⟩
abbrev S1x384x384 : Shape := ⟨3, ![1, 384, 384]⟩
abbrev S384x384 : Shape := ⟨2, ![384, 384]⟩
abbrev S384x512 : Shape := ⟨2, ![384, 512]⟩
abbrev S512 : Shape := ⟨1, ![512]⟩
abbrev S9x512 : Shape := ⟨2, ![9, 512]⟩
abbrev S1x512 : Shape := ⟨2, ![1, 512]⟩
abbrev S27x512 : Shape := ⟨2, ![27, 512]⟩

abbrev nBuf : Space → Nat
  | .hbm => 20
  | .vmem => 9
  | .smem => 0
  | _ => 0

abbrev bufTy : (tb : Table) → Fin (tcTables nBuf tb) → BufTy
  | .hbm, ⟨0, _⟩ => ⟨S2x96x384x384, .f32⟩
  | .hbm, ⟨1, _⟩ => ⟨S384x384x3, .f32⟩
  | .hbm, ⟨2, _⟩ => ⟨S384, .f32⟩
  | .hbm, ⟨3, _⟩ => ⟨S9, .i32⟩
  | .hbm, ⟨4, _⟩ => ⟨S9, .i1⟩
  | .hbm, ⟨5, _⟩ => ⟨S2x96x192x2x192x2, .f32⟩
  | .hbm, ⟨6, _⟩ => ⟨S2x96x2x2x192x192, .f32⟩
  | .hbm, ⟨7, _⟩ => ⟨S2x384x36864, .f32⟩
  | .hbm, ⟨8, _⟩ => ⟨S_, .i32⟩
  | .hbm, ⟨9, _⟩ => ⟨S9, .i32⟩
  | .hbm, ⟨10, _⟩ => ⟨S9, .i32⟩
  | .hbm, ⟨11, _⟩ => ⟨S9, .i32⟩
  | .hbm, ⟨12, _⟩ => ⟨S9x1, .i32⟩
  | .hbm, ⟨13, _⟩ => ⟨S2x384x9, .f32⟩
  | .hbm, ⟨14, _⟩ => ⟨S3x384x384, .f32⟩
  | .hbm, ⟨15, _⟩ => ⟨S384x1, .f32⟩
  | .hbm, ⟨16, _⟩ => ⟨S2x384x36864, .f32⟩
  | .hbm, ⟨17, _⟩ => ⟨S2x96x2x2x192x192, .f32⟩
  | .hbm, ⟨18, _⟩ => ⟨S2x96x192x2x192x2, .f32⟩
  | .hbm, ⟨19, _⟩ => ⟨S2x96x384x384, .f32⟩
  | .local _ .vmem, ⟨0, _⟩ => ⟨S1x384x512, .f32⟩
  | .local _ .vmem, ⟨1, _⟩ => ⟨S1x384x512, .f32⟩
  | .local _ .vmem, ⟨2, _⟩ => ⟨S1x384x9, .f32⟩
  | .local _ .vmem, ⟨3, _⟩ => ⟨S1x384x9, .f32⟩
  | .local _ .vmem, ⟨4, _⟩ => ⟨S3x384x384, .f32⟩
  | .local _ .vmem, ⟨5, _⟩ => ⟨S384x1, .f32⟩
  | .local _ .vmem, ⟨6, _⟩ => ⟨S1x384x512, .f32⟩
  | .local _ .vmem, ⟨7, _⟩ => ⟨S1x384x512, .f32⟩
  | .local _ .vmem, ⟨8, _⟩ => ⟨S384x27, .f32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 72], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x96x384x384 : Shape := ⟨4, ![2, 96, 384, 384]⟩
abbrev S384x384x3 : Shape := ⟨3, ![384, 384, 3]⟩
abbrev S384 : Shape := ⟨1, ![384]⟩
abbrev S2x96x192x2x192x2 : Shape := ⟨6, ![2, 96, 192, 2, 192, 2]⟩
abbrev S2x96x2x2x192x192 : Shape := ⟨6, ![2, 96, 2, 2, 192, 192]⟩
abbrev S2x384x192x192 : Shape := ⟨4, ![2, 384, 192, 192]⟩
abbrev S_ : Shape := ⟨0, ![]⟩
abbrev S2 : Shape := ⟨1, ![2]⟩
abbrev S1 : Shape := ⟨1, ![1]⟩
abbrev S3 : Shape := ⟨1, ![3]⟩
abbrev S3x3 : Shape := ⟨2, ![3, 3]⟩
abbrev S9 : Shape := ⟨1, ![9]⟩
abbrev S3x3x1 : Shape := ⟨3, ![3, 3, 1]⟩
abbrev S3x3x2 : Shape := ⟨3, ![3, 3, 2]⟩
abbrev S2x384x3x3 : Shape := ⟨4, ![2, 384, 3, 3]⟩
abbrev S2x384x9 : Shape := ⟨3, ![2, 384, 9]⟩
abbrev S2x384x36864 : Shape := ⟨3, ![2, 384, 36864]⟩
abbrev S2x36864 : Shape := ⟨2, ![2, 36864]⟩
abbrev S2x9 : Shape := ⟨2, ![2, 9]⟩
abbrev S2x36864x9 : Shape := ⟨3, ![2, 36864, 9]⟩
abbrev S2x36864x1 : Shape := ⟨3, ![2, 36864, 1]⟩
abbrev S2x1x9 : Shape := ⟨3, ![2, 1, 9]⟩
abbrev S9x1 : Shape := ⟨2, ![9, 1]⟩
abbrev S9x2 : Shape := ⟨2, ![9, 2]⟩
abbrev S2x36864x3 : Shape := ⟨3, ![2, 36864, 3]⟩
abbrev S2x1x36864x3 : Shape := ⟨4, ![2, 1, 36864, 3]⟩
abbrev S2x384x36864x3 : Shape := ⟨4, ![2, 384, 36864, 3]⟩
abbrev S2x384x110592 : Shape := ⟨3, ![2, 384, 110592]⟩
abbrev S2x384x110592x1 : Shape := ⟨4, ![2, 384, 110592, 1]⟩
abbrev S1x1x1x1 : Shape := ⟨4, ![1, 1, 1, 1]⟩
abbrev S2x36864x384 : Shape := ⟨3, ![2, 36864, 384]⟩
abbrev S1x384x1 : Shape := ⟨3, ![1, 384, 1]⟩

abbrev nBuf : Space → Nat
  | .hbm => 163
  | .vmem => 0
  | .smem => 0
  | _ => 0

abbrev hbmTy0_0 (i : Nat) : BufTy := match i % 128 with
  | 0 => ⟨S2x96x384x384, .f32⟩
  | 1 => ⟨S384x384x3, .f32⟩
  | 2 => ⟨S384, .f32⟩
  | 3 => ⟨S2x96x192x2x192x2, .f32⟩
  | 4 => ⟨S2x96x2x2x192x192, .f32⟩
  | 5 => ⟨S2x384x192x192, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S2, .f32⟩
  | 14 => ⟨S_, .f32⟩
  | 15 => ⟨S2, .f32⟩
  | 16 => ⟨S2, .f32⟩
  | 17 => ⟨S1, .f32⟩
  | 18 => ⟨S_, .f32⟩
  | 19 => ⟨S2, .f32⟩
  | 20 => ⟨S2, .f32⟩
  | 21 => ⟨S2, .f32⟩
  | 22 => ⟨S2, .f32⟩
  | 23 => ⟨S1, .f32⟩
  | 24 => ⟨S2, .f32⟩
  | 25 => ⟨S2, .f32⟩
  | 26 => ⟨S2, .f32⟩
  | 27 => ⟨S1, .f32⟩
  | 28 => ⟨S3, .f32⟩
  | 29 => ⟨S3, .f32⟩
  | 30 => ⟨S3, .i32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S2, .f32⟩
  | 39 => ⟨S_, .f32⟩
  | 40 => ⟨S2, .f32⟩
  | 41 => ⟨S2, .f32⟩
  | 42 => ⟨S1, .f32⟩
  | 43 => ⟨S_, .f32⟩
  | 44 => ⟨S2, .f32⟩
  | 45 => ⟨S2, .f32⟩
  | 46 => ⟨S2, .f32⟩
  | 47 => ⟨S2, .f32⟩
  | 48 => ⟨S1, .f32⟩
  | 49 => ⟨S2, .f32⟩
  | 50 => ⟨S2, .f32⟩
  | 51 => ⟨S2, .f32⟩
  | 52 => ⟨S1, .f32⟩
  | 53 => ⟨S3, .f32⟩
  | 54 => ⟨S3, .f32⟩
  | 55 => ⟨S3, .i32⟩
  | 56 => ⟨S3x3, .i32⟩
  | 57 => ⟨S3x3, .i32⟩
  | 58 => ⟨S9, .i32⟩
  | 59 => ⟨S9, .i32⟩
  | 60 => ⟨S_, .i32⟩
  | 61 => ⟨S9, .i32⟩
  | 62 => ⟨S9, .i32⟩
  | 63 => ⟨S9, .i32⟩
  | 64 => ⟨S_, .i32⟩
  | 65 => ⟨S3x3, .i32⟩
  | 66 => ⟨S3x3, .i1⟩
  | 67 => ⟨S_, .i32⟩
  | 68 => ⟨S3x3, .i32⟩
  | 69 => ⟨S3x3, .i32⟩
  | 70 => ⟨S3x3, .i32⟩
  | 71 => ⟨S_, .i32⟩
  | 72 => ⟨S3x3, .i32⟩
  | 73 => ⟨S3x3, .i1⟩
  | 74 => ⟨S_, .i32⟩
  | 75 => ⟨S3x3, .i32⟩
  | 76 => ⟨S3x3, .i32⟩
  | 77 => ⟨S3x3, .i32⟩
  | 78 => ⟨S3x3x1, .i32⟩
  | 79 => ⟨S3x3x1, .i32⟩
  | 80 => ⟨S3x3x2, .i32⟩
  | 81 => ⟨S2x384x3x3, .f32⟩
  | 82 => ⟨S2x384x9, .f32⟩
  | 83 => ⟨S2x384x36864, .f32⟩
  | 84 => ⟨S2x384x36864, .f32⟩
  | 85 => ⟨S_, .f32⟩
  | 86 => ⟨S2x36864, .f32⟩
  | 87 => ⟨S2x384x9, .f32⟩
  | 88 => ⟨S_, .f32⟩
  | 89 => ⟨S2x9, .f32⟩
  | 90 => ⟨S2x36864x9, .f32⟩
  | 91 => ⟨S2x36864x1, .f32⟩
  | 92 => ⟨S2x1x9, .f32⟩
  | 93 => ⟨S2x36864x9, .f32⟩
  | 94 => ⟨S2x36864x9, .f32⟩
  | 95 => ⟨S2x36864x9, .f32⟩
  | 96 => ⟨S_, .f32⟩
  | 97 => ⟨S2x36864x9, .f32⟩
  | 98 => ⟨S2x36864x9, .f32⟩
  | 99 => ⟨S2x36864x9, .f32⟩
  | 100 => ⟨S_, .f32⟩
  | 101 => ⟨S2x36864x9, .f32⟩
  | 102 => ⟨S2x36864x9, .f32⟩
  | 103 => ⟨S2x36864x9, .f32⟩
  | 104 => ⟨S9, .i32⟩
  | 105 => ⟨S_, .i32⟩
  | 106 => ⟨S9, .i32⟩
  | 107 => ⟨S9, .i1⟩
  | 108 => ⟨S_, .i32⟩
  | 109 => ⟨S9, .i32⟩
  | 110 => ⟨S9, .i32⟩
  | 111 => ⟨S9, .i32⟩
  | 112 => ⟨S_, .i32⟩
  | 113 => ⟨S9, .i32⟩
  | 114 => ⟨S9, .i1⟩
  | 115 => ⟨S_, .i32⟩
  | 116 => ⟨S9, .i32⟩
  | 117 => ⟨S9, .i32⟩
  | 118 => ⟨S9, .i32⟩
  | 119 => ⟨S9x1, .i32⟩
  | 120 => ⟨S9x1, .i32⟩
  | 121 => ⟨S9x2, .i32⟩
  | 122 => ⟨S_, .f32⟩
  | 123 => ⟨S2x9, .f32⟩
  | 124 => ⟨S2x36864x9, .f32⟩
  | 125 => ⟨S2x36864x9, .f32⟩
  | 126 => ⟨S2x36864x3, .f32⟩
  | 127 => ⟨S2x36864x3, .i32⟩
  | _ => ⟨S2x96x384x384, .f32⟩

abbrev hbmTy0_1 (i : Nat) : BufTy := match i % 128 with
  | 0 => ⟨S2x1x36864x3, .i32⟩
  | 1 => ⟨S2x384x36864x3, .i32⟩
  | 2 => ⟨S2x384x110592, .i32⟩
  | 3 => ⟨S_, .i32⟩
  | 4 => ⟨S2x384x110592, .i32⟩
  | 5 => ⟨S2x384x110592, .i1⟩
  | 6 => ⟨S_, .i32⟩
  | 7 => ⟨S2x384x110592, .i32⟩
  | 8 => ⟨S2x384x110592, .i32⟩
  | 9 => ⟨S2x384x110592, .i32⟩
  | 10 => ⟨S2x384x110592x1, .i32⟩
  | 11 => ⟨S1, .i32⟩
  | 12 => ⟨S_, .i32⟩
  | 13 => ⟨S2x384x110592x1, .i32⟩
  | 14 => ⟨S2x384x110592x1, .i1⟩
  | 15 => ⟨S1x1x1x1, .i32⟩
  | 16 => ⟨S2x384x110592x1, .i32⟩
  | 17 => ⟨S2x384x110592x1, .i1⟩
  | 18 => ⟨S2x384x110592x1, .i1⟩
  | 19 => ⟨S_, .i1⟩
  | 20 => ⟨S2x384x110592, .i1⟩
  | 21 => ⟨S2x384x110592, .f32⟩
  | 22 => ⟨S_, .f32⟩
  | 23 => ⟨S2x384x110592, .f32⟩
  | 24 => ⟨S2x384x110592, .f32⟩
  | 25 => ⟨S2x384x36864x3, .f32⟩
  | 26 => ⟨S2x36864x384, .f32⟩
  | 27 => ⟨S2x384x36864, .f32⟩
  | 28 => ⟨S1x384x1, .f32⟩
  | 29 => ⟨S2x384x36864, .f32⟩
  | 30 => ⟨S2x384x36864, .f32⟩
  | 31 => ⟨S2x384x192x192, .f32⟩
  | 32 => ⟨S2x96x2x2x192x192, .f32⟩
  | 33 => ⟨S2x96x192x2x192x2, .f32⟩
  | 34 => ⟨S2x96x384x384, .f32⟩
  | _ => ⟨S2x96x384x384, .f32⟩

abbrev hbmTy (i : Nat) : BufTy := match i / 128 with
  | 0 => hbmTy0_0 i
  | 1 => hbmTy0_1 i
  | _ => ⟨S2x96x384x384, .f32⟩

abbrev bufTy : (tb : Table) → Fin (tcTables nBuf tb) → BufTy
  | .hbm, ⟨i, _⟩ => hbmTy i
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_1 : Ref sig .tc := ⟨.hbm, 31, rfl⟩
abbrev main_cst_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_cst : Ref sig .tc := ⟨.hbm, 36, rfl⟩
abbrev main_call2_v3 : Ref sig .tc := ⟨.hbm, 37, rfl⟩
abbrev main_call2_v4 : Ref sig .tc := ⟨.hbm, 38, rfl⟩
abbrev main_call2_cst_0 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_cst_1 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_v15 : Ref sig .tc := ⟨.hbm, 51, rfl⟩
abbrev main_call2_v16 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_c : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_3 : Ref sig .tc := ⟨.hbm, 64, rfl⟩
abbrev main_v16 : Ref sig .tc := ⟨.hbm, 65, rfl⟩
abbrev main_v17 : Ref sig .tc := ⟨.hbm, 66, rfl⟩
abbrev main_c_4 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_c_5 : Ref sig .tc := ⟨.hbm, 71, rfl⟩
abbrev main_v21 : Ref sig .tc := ⟨.hbm, 72, rfl⟩
abbrev main_v22 : Ref sig .tc := ⟨.hbm, 73, rfl⟩
abbrev main_c_6 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_7 : Ref sig .tc := ⟨.hbm, 85, rfl⟩
abbrev main_v33 : Ref sig .tc := ⟨.hbm, 86, rfl⟩
abbrev main_v34 : Ref sig .tc := ⟨.hbm, 87, rfl⟩
abbrev main_cst_8 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_cst_9 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_cst_10 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_c_11 : Ref sig .tc := ⟨.hbm, 105, rfl⟩
abbrev main_v49 : Ref sig .tc := ⟨.hbm, 106, rfl⟩
abbrev main_v50 : Ref sig .tc := ⟨.hbm, 107, rfl⟩
abbrev main_c_12 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_c_13 : Ref sig .tc := ⟨.hbm, 112, rfl⟩
abbrev main_v54 : Ref sig .tc := ⟨.hbm, 113, rfl⟩
abbrev main_v55 : Ref sig .tc := ⟨.hbm, 114, rfl⟩
abbrev main_c_14 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_15 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_values : Ref sig .tc := ⟨.hbm, 126, rfl⟩
abbrev main_indices : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_call4_c : Ref sig .tc := ⟨.hbm, 131, rfl⟩
abbrev main_call4_v0 : Ref sig .tc := ⟨.hbm, 132, rfl⟩
abbrev main_call4_v1 : Ref sig .tc := ⟨.hbm, 133, rfl⟩
abbrev main_call4_c_0 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_c_1 : Ref sig .tc := ⟨.hbm, 139, rfl⟩
abbrev main_call4_c_2 : Ref sig .tc := ⟨.hbm, 140, rfl⟩
abbrev main_call4_v6 : Ref sig .tc := ⟨.hbm, 141, rfl⟩
abbrev main_call4_v7 : Ref sig .tc := ⟨.hbm, 142, rfl⟩
abbrev main_call4_v8 : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_c_3 : Ref sig .tc := ⟨.hbm, 147, rfl⟩
abbrev main_call4_v12 : Ref sig .tc := ⟨.hbm, 148, rfl⟩
abbrev main_call4_v13 : Ref sig .tc := ⟨.hbm, 149, rfl⟩
abbrev main_call4_cst : Ref sig .tc := ⟨.hbm, 150, rfl⟩
abbrev main_call4_v14 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩

abbrev nD : Nat := 1
abbrev τ : Topo := Topo.v7x

variable {F : FTy → Type} [FloatOps F]
-- ==== Proof.KernelRun.lean ====
/-
  The run of the kernel's program: what its result holds at the end, in terms of the array that the launch writes.
-/
module

public import proofs.«01_k».proof.Proof.Gen.KernelIdeal.Frame
public import Idealize.ShloMosaic.Lib.Claim
public import Idealize.ShloMosaic.Lib.Pipeline.ValueKit

@[expose] public section

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The launch's result spread over the pixels: the three layout operations that follow the launch. -/
def spread (y : FVec F S2x384x36864 .f32) : FVec F S2x96x384x384 .f32 :=
  shapeCast S2x96x384x384 (transpose S2x96x192x2x192x2 [0, 1, 4, 2, 5, 3]
    (shapeCast S2x96x2x2x192x192 y shapeCasts_S2x384x36864_S2x96x2x2x192x192)
    transposes_S2x96x2x2x192x192_S2x96x192x2x192x2_0_1_4_2_5_3) shapeCasts_S2x96x192x2x192x2_S2x96x384x384

/-- The program runs to an end at which its result is the launch's result spread over the pixels, its arguments as given. -/
theorem run : θ_run defs (onTc (τ := τ) (main (F := F))) ⟨m, fun _ => 0, ρ⟩ (fun r => ∀ c : Dev nD,
      r.2.mem ((c.tc : Thread nD τ).loc main_v13) = spread ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m ρ) (unchanged m ρ)) fun r h c => by
    refine ⟨?_, h.2 c⟩
    refine ((h.1 c).2 main_v13 (Pipeline.mem_restRefs_of main_v13 (by decide) (by decide))).trans ?_
    unfold Pipeline.afterTail₀
    simp only [List.flatten_cons, List.flatten_nil, List.append_nil, hostOps1]
    after_results
    exact congrArg spread (Pipeline.withArrays_arr spec0 winFacts0.arr_inj c (V0 m c) (fun w => (dats m 0 c).arrAt w (cfgs 0).N) 4)

end Cert.KernelIdeal.Value

end
-- ==== Proof.Block.lean ====
/-
  What one grid point of the kernel writes, as one function of the blocks it is given: the masked squared distances
  from its tokens to the nine anchors, the anchors' ranks by that distance, and the product of the weighted anchors
  with the indicators of the ranks 0, 1 and 2.
-/
module

public import proofs.«01_k».proof.Proof.KernelRun
public import Idealize.ShloMosaic.Lib.Pipeline.ReadBack

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- The nine ranks of each token, in the kernel's operations, from the distances `e` before the mask, the tokens'
    positions `p`, the first three rows `q0 q1 q2` of the mask and the fourth anchor's position `p3`. -/
def ranks (e : FVec F S9x512 .f32) (p : IVec S1x512 32) (q0 q1 q2 : FVec F S1x512 .f32) (p3 : IVec S1x512 32) :
    FVec F S9x512 .f32 :=
  let d0 := k0_pay13 e p q0 q1 q2 p3
  let d1 := k0_pay14 e p q0 q1 q2 p3
  let d2 := k0_pay15 e p q0 q1 q2 p3
  let d3 := k0_pay16 e p q0 q1 q2 p3
  let d4 := k0_pay17 e p q0 q1 q2 p3
  let d5 := k0_pay18 e p q0 q1 q2 p3
  let d6 := k0_pay19 e p q0 q1 q2 p3
  let d7 := k0_pay20 e p q0 q1 q2 p3
  let d8 := k0_pay21 e p q0 q1 q2 p3
  k0_pay42 d2 d3 d4 d5 d6 d7 d8
    (k0_pay24 d0 d4 d5 d6 d7 d8 (k0_pay22 e p q0 q1 q2 p3) (k0_pay23 e p q0 q1 q2 p3))
    (k0_pay26 d1 d8 (k0_pay25 d0 d1 d2 d3 d4 d5 d6 d7))
    (k0_pay27 d0 d1 d2 d3 d4 d5 d6 d7 d8)
    (k0_pay29 d1 d2 d3 d4 d5 d6 d7 d8 (k0_pay28 d0 d3))
    (k0_pay32 d2 d3 d4 d5 d6 d7 d8 (k0_pay30 d0 d1 d4) (k0_pay31 d2 d4))
    (k0_pay34 d3 d4 d5 d6 d7 d8 (k0_pay33 d0 d1 d2 d5))
    (k0_pay37 d3 d4 d5 d6 d7 d8 (k0_pay35 d0 d1 d2 d6) (k0_pay36 d3 d6))
    (k0_pay39 d3 d4 d5 d6 d7 d8 (k0_pay38 d0 d1 d2 d7))
    (k0_pay40 d0 d1 d8) (k0_pay41 d2 d8)

/-- The ranks at grid point `i`, from its block `x` of tokens and the nine anchors `a`. -/
def ranksAt (i : grid0.Coords) (a : Vec F S1x384x9 .f32) (x : Vec F S1x384x512 .f32) : FVec F S9x512 .f32 :=
  ranks (k0_pay6 a x) (k0_pay7 i) (k0_pay8 i) (k0_pay9 i) (k0_pay10 i) k0_pay11

/-- The block that grid point `i` writes, from its tokens `x`, the anchors `a`, the weighted anchors `y` and the
    bias `b`. -/
def block (i : grid0.Coords) (a : Vec F S1x384x9 .f32) (x : Vec F S1x384x512 .f32) (y : Vec F S384x27 .f32)
    (b : Vec F S384x1 .f32) : FVec F S1x384x512 .f32 :=
  k0_pay1 (ranksAt i a x)
    (sitofp .f32 (extui 32 (cmpf .oeq (ranksAt i a x) (broadcast S9x512 (Scalar.ofBits .f32 0x00000000#32))) natLt_1_32))
    (extui 32 (cmpf .oeq (ranksAt i a x) (broadcast S9x512 (Scalar.ofBits .f32 0x3F800000#32))) natLt_1_32) y b

variable (m : (ℓ : Loc nD τ sig) → Buf (Elt F) ℓ)

/-- A grid point that is not the first of its batch writes `block` of the scratch it was handed. -/
theorem out_B (c : Dev nD) (t : Fin cfg0.N) (h : ¬ t.val % 72 = 0) :
    (outsAt0 m c t.val t.isLt).1 = block (grid0.coords t) (iblk m c 1 t) (iblk m c 0 t)
      (outsAt0 m c (t.val - 1) (Nat.lt_of_le_of_lt (Nat.sub_le _ _) t.isLt)).2 (iblk m c 3 t) := by
  rw [outsAt0_B m c t h]
  frame_out
  simp only [read_unread_whole]
  rfl

/-- A grid point that is not the first of its batch leaves the scratch as it was handed it. -/
theorem scr_B (c : Dev nD) (t : Fin cfg0.N) (h : ¬ t.val % 72 = 0) :
    (outsAt0 m c t.val t.isLt).2 = (outsAt0 m c (t.val - 1) (Nat.lt_of_le_of_lt (Nat.sub_le _ _) t.isLt)).2 := by
  rw [outsAt0_B m c t h]
  rfl

/-- The scratch after the three stores of a batch's first grid point: the anchors `a` weighted by the three
    matrices of `w`, side by side. -/
def weighted (a : Vec F S1x384x9 .f32) (w : Vec F S3x384x384 .f32) : Vec F S384x27 .f32 :=
  View.canon (Val := Elt F)
    [⟨Rect.unit ![0, 18] ![384, 9] inb_S384x27_S384x9_0_18,
      k0_pay5 a (View.ld w (Rect.unit ![2, 0, 0] ![1, 384, 384] inb_S3x384x384_S1x384x384_2_0_0))⟩,
     ⟨Rect.unit ![0, 9] ![384, 9] inb_S384x27_S384x9_0_9,
      k0_pay4 a (View.ld w (Rect.unit ![1, 0, 0] ![1, 384, 384] inb_S3x384x384_S1x384x384_1_0_0))⟩,
     ⟨Rect.unit ![0, 0] ![384, 9] inb_S384x27_S384x9_0_0,
      k0_pay3 a (View.ld w (Rect.unit ![0, 0, 0] ![1, 384, 384] inb_S3x384x384_S1x384x384_0_0_0))⟩]

/-- The first grid point of a batch leaves the weighted anchors in the scratch. -/
theorem scr_A (c : Dev nD) (t : Fin cfg0.N) (h : t.val % 72 = 0) :
    (outsAt0 m c t.val t.isLt).2 = weighted (iblk m c 1 t) (iblk m c 2 t) := by
  rw [outsAt0_A m c t h]
  frame_out

/-- The first grid point of a batch writes `block` of the weighted anchors. -/
theorem out_A (c : Dev nD) (t : Fin cfg0.N) (h : t.val % 72 = 0) :
    (outsAt0 m c t.val t.isLt).1 = block (grid0.coords t) (iblk m c 1 t) (iblk m c 0 t)
      (weighted (iblk m c 1 t) (iblk m c 2 t)) (iblk m c 3 t) := by
  rw [outsAt0_A m c t h]
  frame_out
  refine congrArg (fun y => block (grid0.coords t) (iblk m c 1 t) (iblk m c 0 t) y (iblk m c 3 t)) ?_
  rw [View.readCov_eq_canon']
  exact View.ld_unit_lit inb_S384x27_S384x27_0_0 _ (by decide)

end Cert.KernelIdeal.Value

end
-- ==== Proof.Ranks.lean ====
/-
  The kernel's ranks, at a token: the rank of anchor `k` counts the anchors before it in the order of distance, the
  earlier one first among equals.
-/
module

public import proofs.«01_k».proof.Proof.Block
public import Idealize.ShloMosaic.Lib.ValueIdx
public import Idealize.ShloMosaic.Lib.Pointwise
public import Idealize.ShloMosaic.Lib.ValueLayout

@[expose] public section

noncomputable section

namespace Cert.KernelIdeal.Value

open Cert.KernelIdeal Cert.KernelIdeal.Gen Idealize.ShloMosaic.TcCoe Idealize.SL.Sem
open Idealize.ShloMosaic

/-- A comparison "less than", converted to a float through an integer, is 1 where it holds and 0 elsewhere. -/
theorem lt_bit {s : Shape} (a b : FVec Ideal s .f32) (h : 1 < 32) (i : s.Idx) :
    (sitofp .f32 (extui 32 (cmpf .olt a b) h) : FVec Ideal s .f32) i = if a i < b i then (1 : EReal) else 0 := by
  show (((((Ideal.cmp .olt (a i) (b i)).setWidth 32).toInt : ℝ)) : EReal) = _
  by_cases hab : a i < b i <;> simp [Ideal.cmp, hab]

/-- A comparison "equal", converted to a float through an integer, is 1 where it holds and 0 elsewhere. -/
theorem eq_bit {s : Shape} (a b : FVec Ideal s .f32) (h : 1 < 32) (i : s.Idx) :
    (sitofp .f32 (extui 32 (cmpf .oeq a b) h) : FVec Ideal s .f32) i = if a i = b i then (1 : EReal) else 0 := by
  show (((((Ideal.cmp .oeq (a i) (b i)).setWidth 32).toInt : ℝ)) : EReal) = _
  by_cases hab : a i = b i <;> simp [Ideal.cmp, hab]

/-- The rank of `k` under the key `d`, as the kernel adds it up: one for every smaller key, and one for every equal
    key at an earlier place. -/
def rank (d : Fin 9 → EReal) (k : Fin 9) : EReal :=
  ∑ j : Fin 9, ((if d j < d k then (1 : EReal) else 0) + if j < k then (if d j = d k then (1 : EReal) else 0) else 0)

/-- The kernel's ranks at token `l` are the ranks under the masked distances of that token. -/
theorem ranks_apply (e : FVec Ideal S9x512 .f32) (p : IVec S1x512 32) (q0 q1 q2 : FVec Ideal S1x512 .f32)
    (p3 : IVec S1x512 32) (k : Fin 9) (l : Fin 512) :
    ranks e p q0 q1 q2 p3 (ix2 k l) = rank (fun j => k0_pay12 e p q0 q1 q2 p3 (ix2 j l)) k := by
  have e0 : k0_pay13 e p q0 q1 q2 p3 (ix2 0 l) = k0_pay12 e p q0 q1 q2 p3 (ix2 0 l) :=
    ValueIdx.slice2_axis0_apply 0 (k0_pay12 e p q0 q1 q2 p3) slices_S9x512_o0_0_S1x512 (0 : Fin 1) l (0 : Fin 9) rfl
  have e1 : k0_pay14 e p q0 q1 q2 p3 (ix2 0 l) = k0_pay12 e p q0 q1 q2 p3 (ix2 1 l) :=
    ValueIdx.slice2_axis0_apply 1 (k0_pay12 e p q0 q1 q2 p3) slices_S9x512_o1_0_S1x512 (0 : Fin 1) l (1 : Fin 9) rfl
  have e2 : k0_pay15 e p q0 q1 q2 p3 (ix2 0 l) = k0_pay12 e p q0 q1 q2 p3 (ix2 2 l) :=
    ValueIdx.slice2_axis0_apply 2 (k0_pay12 e p q0 q1 q2 p3) slices_S9x512_o2_0_S1x512 (0 : Fin 1) l (2 : Fin 9) rfl
  have e3 : k0_pay16 e p q0 q1 q2 p3 (ix2 0 l) = k0_pay12 e p q0 q1 q2 p3 (ix2 3 l) :=
    ValueIdx.slice2_axis0_apply 3 (k0_pay12 e p q0 q1 q2 p3) slices_S9x512_o3_0_S1x512 (0 : Fin 1) l (3 : Fin 9) rfl
  have e4 : k0_pay17 e p q0 q1 q2 p3 (ix2 0 l) = k0_pay12 e p q0 q1 q2 p3 (ix2 4 l) :=
    ValueIdx.slice2_axis0_apply 4 (k0_pay12 e p q0 q1 q2 p3) slices_S9x512_o4_0_S1x512 (0 : Fin 1) l (4 : Fin 9) rfl
  have e5 : k0_pay18 e p q0 q1 q2 p3 (ix2 0 l) = k0_pay12 e p q0 q1 q2 p3 (ix2 5 l) :=
    ValueIdx.slice2_axis0_apply 5 (k0_pay12 e p q0 q1 q2 p3) slices_S9x512_o5_0_S1x512 (0 : Fin 1) l (5 : Fin 9) rfl
  have e6 : k0_pay19 e p q0 q1 q2 p3 (ix2 0 l) = k0_pay12 e p q0 q1 q2 p3 (ix2 6 l) :=
    ValueIdx.slice2_axis0_apply 6 (k0_pay12 e p q0 q1 q2 p3) slices_S9x512_o6_0_S1x512 (0 : Fin 1) l (6 : Fin 9) rfl
  have e7 : k0_pay20 e p q0 q1 q2 p3 (ix2 0 l) = k0_pay12 e p q0 q1 q2 p3 (ix2 7 l) :=
    ValueIdx.slice2_axis0_apply 7 (k0_pay12 e p q0 q1 q2 p3) slices_S9x512_o7_0_S1x512 (0 : Fin 1) l (7 : Fin 9) rfl
  have e8 : k0_pay21 e p q0 q1 q2 p3 (ix2 0 l) = k0_pay12 e p q0 q1 q2 p3 (ix2 8 l) :=
    ValueIdx.slice2_axis0_apply 8 (k0_pay12 e p q0 q1 q2 p3) slices_S9x512_o8_0_S1x512 (0 : Fin 1) l (8 : Fin 9) rfl
  unfold ranks k0_pay22 k0_pay23
  generalize k0_pay12 e p q0 q1 q2 p3 = D at *
  generalize k0_pay13 e p q0 q1 q2 p3 = d0 at *
  generalize k0_pay14 e p q0 q1 q2 p3 = d1 at *
  generalize k0_pay15 e p q0 q1 q2 p3 = d2 at *
  generalize k0_pay16 e p q0 q1 q2 p3 = d3 at *
  generalize k0_pay17 e p q0 q1 q2 p3 = d4 at *
  generalize k0_pay18 e p q0 q1 q2 p3 = d5 at *
  generalize k0_pay19 e p q0 q1 q2 p3 = d6 at *
  generalize k0_pay20 e p q0 q1 q2 p3 = d7 at *
  generalize k0_pay21 e p q0 q1 q2 p3 = d8 at *
  unfold k0_pay42
  dsimp only
  have hi : ∀ i : S1x512.Idx, (i 0).val = 0 → (i 1).val = l.val → i = ix2 0 l := by
    intro i a b; funext x; apply Fin.ext; fin_cases x
    · exact a
    · exact b
  have hz : (broadcast S1x512 (FloatOps.ofBits (F := Ideal) .f32 0#32) : FVec Ideal S1x512 .f32) (ix2 0 l) = (0 : EReal) := by
    exact Ideal.ofBits_zero_f32
  have s9 : ∀ f : Fin 9 → EReal, ∑ x, f x = f 0 + f 1 + f 2 + f 3 + f 4 + f 5 + f 6 + f 7 + f 8 := fun f => by
    rw [Fin.sum_univ_castSucc, Fin.sum_univ_eight]; rfl
  concat_tiles i h
  all_goals
    rw [hi _ h0 h1]
    have hk : k = ⟨_, h ▸ k.isLt⟩ := Fin.ext h
    rw [hk]
    simp only [k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, addf_apply, lt_bit, eq_bit,
      e0, e1, e2, e3, e4, e5, e6, e7, e8]
    simp only [hz, rank, Ideal.addf_def, s9, Fin.reduceFinMk, Fin.isValue, Fin.reduceLT, if_true, if_false,
      lt_irrefl, add_zero, zero_add, add_assoc]

end Cert.KernelIdeal.Value

end
-- ==== Proof.Order.lean ====
/-
  Counting is sorting: the key that a stable sort puts at place `j` is the key with `j` keys before it, so a sum over
  all keys that keeps only the one of rank `j` is the value at the sort's `j`-th key.
-/
module

public import proofs.«01_k».proof.Proof.Ranks
public import Idealize.ShloMosaic.Lib.SortFacts
public import Idealize.ShloMosaic.Lib.SortPrefix

@[expose] public section

noncomputable section

namespace Cert.KernelIdeal.Value

open Idealize.ShloMosaic

/-- The order of the keys `d`, the earlier place first among equals. -/
def keyBefore (d : Fin 9 → EReal) (k k' : Fin 9) : Bool :=
  decide (d k < d k') || (decide (d k = d k') && decide (k < k'))

/-- That order is strict and total. -/
theorem keyBefore_strict (d : Fin 9 → EReal) : StrictTotalBefore (keyBefore d) := by
  refine ⟨fun a => by simp [keyBefore], fun a b c hab hbc => ?_, fun a b hne => ?_⟩
  · simp only [keyBefore, Bool.or_eq_true, Bool.and_eq_true, decide_eq_true_eq] at *
    rcases hab with h | ⟨h, h'⟩ <;> rcases hbc with g | ⟨g, g'⟩
    · exact .inl (h.trans g)
    · exact .inl (g ▸ h)
    · exact .inl (h ▸ g)
    · exact .inr ⟨h.trans g, h'.trans g'⟩
  · simp only [keyBefore, Bool.or_eq_true, Bool.and_eq_true, decide_eq_true_eq]
    rcases lt_trichotomy (d a) (d b) with h | h | h
    · exact .inl (.inl h)
    · rcases lt_or_gt_of_ne hne with g | g
      · exact .inl (.inr ⟨h, g⟩)
      · exact .inr (.inr ⟨h.symm, g⟩)
    · exact .inr (.inl h)

/-- A stable insertion sort of places in increasing order, by their keys alone, sorts by key and then by place. -/
theorem stableSort_key (d : Fin 9 → EReal) (l : List (Fin 9)) (hl : l.Pairwise (· < ·)) :
    stableSort (fun k k' => decide (d k < d k')) l = stableSort (keyBefore d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [keyBefore, not_lt.mpr hab.le]

/-- The sort by the keys alone is the sort by key and then by place. -/
theorem sortedFrom_key (d : Fin 9 → EReal) :
    sortedFrom (fun k k' : Fin 9 => decide (d k < d k')) = sortedFrom (keyBefore d) := by
  funext k
  unfold sortedFrom
  rw [List.get_of_eq (l := sortPositions 9 _) (stableSort_key d (List.finRange 9) (List.pairwise_lt_finRange 9))]
  rfl

/-- The rank of `k` is the number of places before it. -/
theorem rank_eq_card (d : Fin 9 → EReal) (k : Fin 9) :
    rank d k = ((Finset.univ.filter fun j => keyBefore d j k = true).card : EReal) := by
  unfold rank
  rw [Finset.card_filter, Nat.cast_sum]
  refine Finset.sum_congr rfl fun j _ => ?_
  by_cases h : d j < d k
  · simp [keyBefore, h, h.ne]
  · by_cases e : d j = d k <;> by_cases g : j < k <;> simp [keyBefore, e, g, h]

/-- The place that the stable sort puts at `j` has rank `j`. -/
theorem rank_sortedFrom (d : Fin 9 → EReal) (j : Fin 9) :
    rank d (sortedFrom (fun k k' : Fin 9 => decide (d k < d k')) j) = ((j.val : ℕ) : EReal) := by
  rw [sortedFrom_key, rank_eq_card]
  have hB := keyBefore_strict d
  have hiff : ∀ a b : Fin 9, keyBefore d (sortedFrom (keyBefore d) a) (sortedFrom (keyBefore d) b) = true ↔ a < b := by
    have no : ∀ a b : Fin 9, a < b → keyBefore d (sortedFrom (keyBefore d) b) (sortedFrom (keyBefore d) a) = false :=
      fun a b => sortedFrom_noInversion (keyBefore d) (keyBefore d) (fun a b h => hB.asymm a b h) (fun _ _ h => h)
        hB.negTrans a b
    intro a b
    rcases lt_trichotomy a b with h | h | h
    · refine ⟨fun _ => h, fun _ => ?_⟩
      rcases hB.total _ _ ((sortedFrom_injective (keyBefore d)).ne h.ne) with g | g
      · exact g
      · rw [no a b h] at g; exact absurd g (by decide)
    · subst h; simp [hB.irrefl]
    · rw [no b a h]; exact ⟨fun g => absurd g (by decide), fun g => absurd g h.not_gt⟩
  have : (Finset.univ.filter fun k => keyBefore d k (sortedFrom (keyBefore d) j) = true)
      = (Finset.univ.filter fun a : Fin 9 => a < j).image (sortedFrom (keyBefore d)) := by
    ext k
    obtain ⟨a, rfl⟩ := sortedFrom_surjective (keyBefore d) k
    simp [hiff, (sortedFrom_injective (keyBefore d)).eq_iff]
  rw [this, Finset.card_image_of_injective _ (sortedFrom_injective _)]
  exact congrArg Nat.cast (by clear this; revert j; decide)

/-- Of a sum over the nine places, the indicator of rank `j` keeps the term at the sort's `j`-th place. -/
theorem sum_rank (d f : Fin 9 → EReal) (j : Fin 9) :
    ∑ k : Fin 9, f k * (if rank d k = ((j.val : ℕ) : EReal) then (1 : EReal) else 0)
      = f (sortedFrom (fun k k' : Fin 9 => decide (d k < d k')) j) := by
  rw [Finset.sum_eq_single (sortedFrom (fun k k' : Fin 9 => decide (d k < d k')) j)]
  · rw [rank_sortedFrom, if_pos rfl, mul_one]
  · intro k _ hk
    obtain ⟨a, rfl⟩ := sortedFrom_surjective (fun k k' : Fin 9 => decide (d k < d k')) k
    rw [rank_sortedFrom, if_neg, mul_zero]
    intro h
    exact hk (by rw [Fin.ext (Nat.cast_injective h)])
  · intro h; exact absurd (Finset.mem_univ _) h

end Cert.KernelIdeal.Value

end
-- ==== Proof.Values.lean ====
/-
  What one grid point of the kernel writes over the extended reals: for each token and each of the three nearest
  anchors, nearest first, that anchor's column times the matrix of its place, added up, plus the bias.
-/
module

public import proofs.«01_k».proof.Proof.Order

@[expose] public section

set_option maxRecDepth 16384

noncomputable section

namespace Cert.KernelIdeal.Value

open Cert.KernelIdeal Cert.KernelIdeal.Gen Idealize.ShloMosaic Idealize.ShloMosaic.TcCoe Idealize.SL.Sem

/-- The tokens at which the nine anchors stand: rows and columns 0, 96 and 191 of the 192 by 192 grid. -/
def flat : Fin 9 → ℕ := ![0, 96, 191, 18432, 18528, 18623, 36672, 36768, 36863]

/-- The squared distance of two columns, as both programs compute it: the squared lengths less twice the inner
    product, and not below zero. -/
def dist2 (x a : Fin 384 → EReal) : EReal :=
  max (∑ c, x c * x c + ∑ c, a c * a c - 2 * ∑ c, a c * x c) 0

/-- The key by which token `n`, with the column `x`, ranks the anchors, with the columns `A`: the squared distance, and
    below everything where the token is the anchor itself. -/
def key (A : Fin 9 → Fin 384 → EReal) (x : Fin 384 → EReal) (n : ℕ) (k : Fin 9) : EReal :=
  if n = flat k then ⊥ else dist2 x (A k)

/-- The anchor that a token with keys `d` puts at place `j`: the `j`-th of the stable sort by key. -/
def nearest (d : Fin 9 → EReal) (j : Fin 3) : Fin 9 :=
  sortedFrom (fun k k' : Fin 9 => decide (d k < d k')) (j.castLE (by decide))

/-- The column of the weighted anchors that holds anchor `k` times the matrix of place `j`. -/
def col (j : Fin 3) (k : Fin 9) : Fin 27 := ⟨9 * j.val + k.val, by omega⟩

/-- A sum over the 27 columns is the sum over the three places and the nine anchors. -/
theorem sum_col (f : Fin 27 → EReal) : ∑ q, f q = ∑ j : Fin 3, ∑ k : Fin 9, f (col j k) := by
  refine ((finProdFinEquiv (m := 3) (n := 9)).sum_comp f).symm.trans ?_
  rw [Fintype.sum_prod_type]
  refine Finset.sum_congr rfl fun j _ => Finset.sum_congr rfl fun k _ => congrArg f (Fin.ext ?_)
  exact Nat.add_comm _ _

/-- The pattern of `2.0` is the number two. -/
theorem ofBits_two : Ideal.ofBits .f32 0x40000000#32 = 2 := by
  rw [show (2 : EReal) = ((2 : ℝ) : EReal) from rfl]
  norm_num [Ideal.ofBits, Ideal.ieee, Nat.shiftRight_eq_div_pow,
    show BitVec.extractLsb' 31 1 0x40000000#32 = 0#1 by decide]

/-- The pattern of negative infinity is the least extended real. -/
theorem ofBits_neg_inf : Ideal.ofBits .f32 0xFF800000#32 = ⊥ := by
  norm_num [Ideal.ofBits, Ideal.ieee, Nat.shiftRight_eq_div_pow,
    show BitVec.extractLsb' 31 1 0xFF800000#32 = 1#1 by decide]

/-- The mask of the kernel at token `l` of block `q`: positive where the token's place is the anchor's. -/
theorem mask_pos (q l n : ℕ) (hq : q < 72) (hl : l < 512) (hn : n < 36864) :
    (0 : EReal) < FloatOps.sitofp (F := Ideal) .f32 (BitVec.setWidth 32 (IntOp.cmpi CmpIPredicate.eq
      (IntOp.addi (Scalar.muli (BitVec.ofNat 32 q) 512#32) (BitVec.ofNat 32 l)) (BitVec.ofNat 32 n)))
      ↔ q * 512 + l = n := by
  have h : IntOp.cmpi CmpIPredicate.eq (IntOp.addi (Scalar.muli (BitVec.ofNat 32 q) 512#32) (BitVec.ofNat 32 l))
      (BitVec.ofNat 32 n) = BitVec.ofBool (decide (q * 512 + l = n)) := by
    show BitVec.ofBool (decide (BitVec.ofNat 32 q * 512#32 + BitVec.ofNat 32 l = BitVec.ofNat 32 n)) = _
    congr 2
    rw [eq_iff_iff, ← BitVec.toNat_inj]
    simp only [BitVec.toNat_add, BitVec.toNat_mul, BitVec.toNat_ofNat]
    omega
  rw [h]
  show (0 : EReal) < ((((BitVec.ofBool (decide (q * 512 + l = n))).setWidth 32).toInt : ℝ) : EReal) ↔ _
  by_cases e : q * 512 + l = n <;> simp [e]

/-- The masked distances of the kernel at anchor `k` and token `l` of grid point `i` are the ranking keys. -/
theorem key_apply (i : grid0.Coords) (a : Vec Ideal S1x384x9 .f32) (x : Vec Ideal S1x384x512 .f32) (k : Fin 9)
    (l : Fin 512) :
    k0_pay12 (k0_pay6 a x) (k0_pay7 i) (k0_pay8 i) (k0_pay9 i) (k0_pay10 i) k0_pay11 (ix2 k l)
      = key (fun k c => a (ix3 0 c k)) (fun c => x (ix3 0 c l)) ((i 1).val * 512 + l.val) k := by
  have hd : k0_pay6 a x (ix2 k l) = dist2 (fun c => x (ix3 0 c l)) (fun c => a (ix3 0 c k)) := by
    pointwise [k0_pay6, k0_pay2]
    rw [ofBits_two]
    rfl
  generalize k0_pay6 a x = e at hd
  have hq : (i 1).val < 72 := (i 1).isLt
  unfold key
  rw [← hd]
  clear hd
  pointwise [k0_pay12,  k0_pay7, k0_pay8, k0_pay9, k0_pay10, k0_pay11]
  fin_vals k with hk
  all_goals
    simp only [hk, Nat.reduceSub, Nat.reduceLT, ↓reduceDIte, mask_pos _ _ _ hq l.isLt, ofBits_neg_inf]
    have hf : flat k = flat ⟨_, hk ▸ k.isLt⟩ := congrArg flat (Fin.ext hk)
    rw [hf]
    rfl

/-- What grid point `i` writes at channel `o` and token `l`, from the weighted anchors `y`: the columns of the three
    nearest anchors, each at its place, added up, plus the bias. -/
theorem block_apply (i : grid0.Coords) (a : Vec Ideal S1x384x9 .f32) (x : Vec Ideal S1x384x512 .f32)
    (y : Vec Ideal S384x27 .f32) (b : Vec Ideal S384x1 .f32) (o : Fin 384) (l : Fin 512) :
    block i a x y b (ix3 0 o l)
      = ∑ j : Fin 3, y (ix2 o (col j (nearest (key (fun k c => a (ix3 0 c k)) (fun c => x (ix3 0 c l))
          ((i 1).val * 512 + l.val)) j))) + b (ix2 o 0) := by
  have hr : ∀ k : Fin 9, ranksAt i a x (ix2 k l)
      = rank (key (fun k c => a (ix3 0 c k)) (fun c => x (ix3 0 c l)) ((i 1).val * 512 + l.val)) k := fun k => by
    unfold ranksAt
    rw [ranks_apply]
    exact congrArg (fun d => rank d k) (funext fun j => key_apply i a x j l)
  unfold block
  generalize ranksAt i a x = r at hr
  generalize key (fun k c => a (ix3 0 c k)) (fun c => x (ix3 0 c l)) ((i 1).val * 512 + l.val) = d at *
  have bit : ∀ (v w : EReal), FloatOps.sitofp (F := Ideal) .f32 (BitVec.setWidth 32 (BitVec.ofBool (decide (v = w))))
      = if v = w then (1 : EReal) else 0 := fun v w => by
    show ((((BitVec.ofBool (decide (v = w))).setWidth 32).toInt : ℝ) : EReal) = _
    by_cases e : v = w <;> simp [e]
  pointwise [k0_pay1]
  simp only [bit, hr, ofBits_two]
  congr 1
  refine (sum_col _).trans (Finset.sum_congr rfl fun j _ => ?_)
  trans ∑ k : Fin 9, y (ix2 o (col j k)) * (if rank d k = ((j.val : ℕ) : EReal) then (1 : EReal) else 0)
  · refine Finset.sum_congr rfl fun k _ => congrArg (y (ix2 o (col j k)) * ·) ?_
    have hk := k.isLt
    have hc : (col j k).val = 9 * j.val + k.val := rfl
    fin_vals j with hj
    · rw [dif_pos (by omega)]
      simp only [hc, hj, mul_zero, zero_add, Nat.cast_zero, Fin.eta]
    · rw [dif_neg (by omega), dif_pos (by omega)]
      simp only [hc, hj, mul_one, Nat.add_sub_cancel_left, Nat.cast_one, Fin.eta]
    · rw [dif_neg (by omega), dif_neg (by omega)]
      simp only [hc, hj, Nat.reduceMul, show 18 + k.val - 9 - 9 = k.val by omega, Nat.cast_ofNat, Fin.eta]
  · exact sum_rank d (fun k => y (ix2 o (col j k))) (j.castLE (by decide))

end Cert.KernelIdeal.Value

end
-- ==== Proof.Blocks.lean ====
/-
  The blocks of the kernel's windows as parts of their arrays.
-/
module

public import proofs.«01_k».proof.Proof.Values
public import Idealize.ShloMosaic.Lib.Pipeline.Covers

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- Which block of its array each window holds at a grid point. -/
theorem index0 : ∀ t : Fin cfg0.N, (cfg0.win 0).index t = ![t.val / 72, 0, t.val % 72] := by decide +kernel
@[inherit_doc index0] theorem index1 : ∀ t : Fin cfg0.N, (cfg0.win 1).index t = ![t.val / 72, 0, 0] := by decide +kernel
@[inherit_doc index0] theorem index2 : ∀ t : Fin cfg0.N, (cfg0.win 2).index t = ![0, 0, 0] := by decide +kernel
@[inherit_doc index0] theorem index3 : ∀ t : Fin cfg0.N, (cfg0.win 3).index t = ![0, 0] := by decide +kernel
@[inherit_doc index0] theorem index4 : ∀ t : Fin cfg0.N, (cfg0.win 4).index t = ![t.val / 72, 0, t.val % 72] := by decide +kernel
/-- The second coordinate of a grid point. -/
theorem coords1 : ∀ t : Fin cfg0.N, (grid0.coords t 1).val = t.val % 72 := by decide +kernel

/-- The batch of grid point `t`. -/
def batch (t : Fin cfg0.N) : Fin 2 := ⟨t.val / 72, by have : t.val < 144 := lt_of_lt_of_eq t.isLt N_0; omega⟩

/-- The place in the batch of token `l` of grid point `t`. -/
def place (t : Fin cfg0.N) (l : Fin 512) : Fin 36864 := ⟨t.val % 72 * 512 + l.val, by omega⟩

/-- The tokens' block, read off the tokens' array. -/
theorem iblk0 (c : Dev nD) (t : Fin cfg0.N) (o : Fin 384) (l : Fin 512) :
    iblk m c 0 t (ix3 0 o l) = V m c main_v2 (ix3 (batch t) o (place t l)) := by
  unfold batch place
  blk_ext [iblk, V, index0 t]

/-- The anchors' block is the batch's anchors. -/
theorem iblk1 (c : Dev nD) (t : Fin cfg0.N) (o : Fin 384) (k : Fin 9) :
    iblk m c 1 t (ix3 0 o k) = V m c main_v7 (ix3 (batch t) o k) := by
  unfold batch
  blk_ext [iblk, V, index1 t]

/-- The weights' block is the whole array. -/
theorem iblk2 (c : Dev nD) (t : Fin cfg0.N) (j : Fin 3) (o o' : Fin 384) :
    iblk m c 2 t (ix3 j o o') = V m c main_v8 (ix3 j o o') := by
  blk_ext [iblk, V, index2 t]

/-- The bias's block is the whole array. -/
theorem iblk3 (c : Dev nD) (t : Fin cfg0.N) (o : Fin 384) :
    iblk m c 3 t (ix2 o 0) = V m c main_v9 (ix2 o 0) := by
  blk_ext [iblk, V, index3 t]

end Cert.KernelIdeal.Value

end
-- ==== Proof.Array.lean ====
/-
  The array the kernel leaves, over the extended reals, at an index.
-/
module

public import proofs.«01_k».proof.Proof.Blocks

@[expose] public section

set_option maxRecDepth 16384

noncomputable section

namespace Cert.KernelIdeal.Value

open Cert.KernelIdeal Cert.KernelIdeal.Gen Idealize.ShloMosaic Idealize.ShloMosaic.TcCoe Idealize.SL.Sem

/-- Column `9 j + k` of the weighted anchors is matrix `j` times anchor `k`. -/
theorem weighted_apply (a : Vec Ideal S1x384x9 .f32) (w : Vec Ideal S3x384x384 .f32) (o : Fin 384) (j : Fin 3)
    (k : Fin 9) : weighted a w (ix2 o (col j k)) = ∑ c : Fin 384, w (ix3 j o c) * a (ix3 0 c k) := by
  have hc : (ix2 o (col j k) 1).val = 9 * j.val + k.val := rfl
  have hk := k.isLt
  unfold weighted
  canon_tiles x h
  all_goals
    rw [hc] at h1
    have h0' : o = x 0 := Fin.ext h0
    have h1' : k.val = (x 1).val := by omega
    have h1'' : k = x 1 := Fin.ext h1'
    pointwise [k0_pay3, k0_pay4, k0_pay5, k0_pay2]
    refine Finset.sum_congr rfl fun c _ => ?_
    rw [h0', h1'']
    exact congrArg (fun z => w (ix3 z (x 0) c) * a (ix3 0 c (x 1))) (Fin.ext (by
      first
        | exact (by omega : 2 = j.val)
        | exact (by omega : 1 = j.val)
        | exact (by omega : 0 = j.val)))

variable {F : FTy → Type} [FloatOps F] (m : (ℓ : Loc nD τ sig) → Buf (Elt F) ℓ)

/-- Grid points of one batch are given the same anchors. -/
theorem iblk1_congr (c : Dev nD) (t t' : Fin cfg0.N) (h : t.val / 72 = t'.val / 72) : iblk m c 1 t = iblk m c 1 t' := by
  funext y
  obtain ⟨z, o, k, rfl⟩ : ∃ (z : Fin 1) (o : Fin 384) (k : Fin 9), y = ix3 z o k := ⟨y 0, y 1, y 2, eq_ix3 y⟩
  obtain rfl : z = 0 := Subsingleton.elim _ _
  rw [iblk1, iblk1, show batch t = batch t' from Fin.ext h]

/-- All grid points are given the same weights. -/
theorem iblk2_congr (c : Dev nD) (t t' : Fin cfg0.N) : iblk m c 2 t = iblk m c 2 t' := by
  funext y
  obtain ⟨z, o, k, rfl⟩ : ∃ (z : Fin 3) (o o' : Fin 384), y = ix3 z o o' := ⟨y 0, y 1, y 2, eq_ix3 y⟩
  rw [iblk2, iblk2]

/-- Every grid point finds, and leaves, its batch's weighted anchors in the scratch. -/
theorem scr (c : Dev nD) (n : ℕ) (h : n < cfg0.N) :
    (outsAt0 m c n h).2 = weighted (iblk m c 1 ⟨n, h⟩) (iblk m c 2 ⟨n, h⟩) := by
  induction n with
  | zero => exact scr_A m c ⟨0, h⟩ rfl
  | succ n ih =>
    by_cases hn : (n + 1) % 72 = 0
    · exact scr_A m c ⟨n + 1, h⟩ hn
    · refine (scr_B m c ⟨n + 1, h⟩ hn).trans ((ih (Nat.lt_of_succ_lt h)).trans ?_)
      rw [iblk1_congr m c ⟨n, Nat.lt_of_succ_lt h⟩ ⟨n + 1, h⟩ (show n / 72 = (n + 1) / 72 by omega),
        iblk2_congr m c ⟨n, Nat.lt_of_succ_lt h⟩ ⟨n + 1, h⟩]

/-- Every grid point writes `block` of its batch's weighted anchors. -/
theorem out (c : Dev nD) (t : Fin cfg0.N) :
    (outsAt0 m c t.val t.isLt).1 = block (grid0.coords t) (iblk m c 1 t) (iblk m c 0 t)
      (weighted (iblk m c 1 t) (iblk m c 2 t)) (iblk m c 3 t) := by
  by_cases h : t.val % 72 = 0
  · exact out_A m c t h
  · refine (out_B m c t h).trans (congrArg (fun y => block _ _ _ y _) ?_)
    exact (scr_B m c t h).symm.trans (scr m c t.val t.isLt)

/-- The result at channel `o` of a token: over the three nearest anchors, nearest first, the inner product of the row of
    the place's matrix with the anchor's column, added up, plus the bias. -/
def result (X : FVec Ideal S2x384x36864 .f32) (A : FVec Ideal S2x384x9 .f32) (W : FVec Ideal S3x384x384 .f32)
    (B : FVec Ideal S384x1 .f32) (b : Fin 2) (o : Fin 384) (n : Fin 36864) : EReal :=
  ∑ j : Fin 3, ∑ c : Fin 384, W (ix3 j o c) *
    A (ix3 b c (nearest (key (fun k c => A (ix3 b c k)) (fun c => X (ix3 b c n)) n.val) j)) + B (ix2 o 0)

/-- The array the kernel leaves holds the result at every index. -/
theorem arr (m : (ℓ : Loc nD τ sig) → Buf (Elt Ideal) ℓ) (c : Dev nD) :
    (dats m 0 c).arrAt 4 cfg0.N = fun y : S2x384x36864.Idx =>
      result (V m c main_v2) (V m c main_v7) (V m c main_v8) (V m c main_v9) (y 0) (y 1) (y 2) := by
  refine (dats m 0 c).arrAt_eq_of_covers 4 _ (by decide +kernel) fun t hf y => ?_
  blk_simp
  rw [after0_4, out]
  obtain ⟨z, o, l, rfl⟩ : ∃ (z : Fin 1) (o : Fin 384) (l : Fin 512), y = ix3 z o l := ⟨y 0, y 1, y 2, eq_ix3 y⟩
  obtain rfl : z = 0 := Subsingleton.elim _ _
  have e : (win0_4.blk t).view.emb (ix3 0 o l) = ix3 (batch t) o (place t l) := by
    unfold batch place
    blk_ext [index4 t]
  rw [block_apply, e, iblk3, coords1]
  simp only [weighted_apply, iblk0, iblk1, iblk2]
  rfl

end Cert.KernelIdeal.Value

end
-- ==== Proof.RefAnchors.lean ====
/-
  Where the reference puts its nine anchors: the rows and columns of the grid it rounds its three samples per axis to,
  and the places they give.
-/
module

public import proofs.«01_k».proof.Proof.Values
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The three samples of an axis: the first, the one half way, rounded up, and the last. -/
def sample : Fin 3 → ℕ := ![0, 96, 191]

/-- The pattern of `191.0` is the number. -/
theorem ofBits_last : Ideal.ofBits .f32 0x433F0000#32 = ((191 : ℝ) : EReal) := by
  norm_num [Ideal.ofBits, Ideal.ieee, Nat.shiftRight_eq_div_pow,
    show BitVec.extractLsb' 31 1 0x433F0000#32 = 0#1 by decide]

/-- A real that rounds to a small natural number, rounded and made an integer: the number. -/
theorem rounded (x : ℝ) (z : ℕ) (h : Ideal.roundHalfEven x = z) (hz : z < 1000) :
    FloatOps.fptosi (F := Ideal) (φ := .f32) 32 (Ideal.liftRound Ideal.roundHalfEven ((x : ℝ) : EReal))
      = BitVec.ofNat 32 z := by
  rw [Ideal.liftRound_coe, h]
  show BitVec.ofInt 32 (Ideal.toIntClamped _ _ _) = _
  rw [Ideal.toIntClamped_coe, if_pos (by positivity), Int.floor_intCast]
  have e : max (-((2 ^ (32 - 1) : ℕ) : ℤ)) (min (((2 ^ (32 - 1) : ℕ) : ℤ) - 1) (z : ℤ)) = z := by
    norm_num
    omega
  rw [e]
  exact BitVec.ofInt_natCast 32 z

/-- The sample half `n` of the way from 0 to 191, before rounding. -/
theorem point (n : ℕ) (hn : n < 2) :
    Ideal.ofBits .f32 0#32 * (1 - Ideal.div (FloatOps.sitofp (F := Ideal) FTy.f32 (BitVec.ofNat 32 n))
          (Ideal.ofBits FTy.f32 1073741824#32))
        + Ideal.ofBits .f32 1128202240#32 * Ideal.div (FloatOps.sitofp (F := Ideal) FTy.f32 (BitVec.ofNat 32 n))
          (Ideal.ofBits FTy.f32 1073741824#32)
      = ((191 * (n / 2) : ℝ) : EReal) := by
  have e : FloatOps.sitofp (F := Ideal) FTy.f32 (BitVec.ofNat 32 n) = ((n : ℝ) : EReal) := by
    show (((BitVec.ofNat 32 n).toInt : ℝ) : EReal) = _
    have : n = 0 ∨ n = 1 := by omega
    rcases this with rfl | rfl
    · rw [show (BitVec.ofNat 32 0).toInt = 0 by decide]; norm_num
    · rw [show (BitVec.ofNat 32 1).toInt = 1 by decide]; norm_num
  rw [e, ofBits_last, Cert.KernelIdeal.Value.ofBits_two, show (2 : EReal) = ((2 : ℝ) : EReal) from rfl,
    Ideal.ofBits_zero_f32, zero_mul, zero_add, Ideal.div_coe two_ne_zero, ← EReal.coe_mul, ← EReal.coe_mul]
  congr 1
  ring

/-- The samples round to 0, 96 and 191. -/
theorem round_sample (i : Fin 3) : Ideal.roundHalfEven (191 * ((i.val : ℝ) / 2)) = (sample i : ℤ) := by
  have h0 : ⌊(191 * ((0 : ℝ) / 2))⌋ = 0 := by norm_num
  have h1 : ⌊(191 * ((1 : ℝ) / 2))⌋ = 95 := by rw [Int.floor_eq_iff]; norm_num
  have h2 : ⌊(191 * ((2 : ℝ) / 2))⌋ = 191 := by norm_num
  fin_cases i
  · norm_num [Ideal.roundHalfEven, sample]
  · simp only [Ideal.roundHalfEven, sample]
    norm_num at h1
    norm_num [h1]
    decide
  · norm_num [Ideal.roundHalfEven, sample]

/-- They are rows and columns of the grid. -/
theorem sample_lt (i : Fin 3) : sample i < 192 := by fin_cases i <;> decide

/-- The rows of the nine anchors. -/
theorem v9_apply (V0 : Valuation τ sig (Elt Ideal)) (i j : Fin 3) :
    res_main_v9 V0 (ix2 i j) = BitVec.ofNat 32 (sample i) := by
  have hl := sample_lt i
  refine Eq.trans ?_ (rounded _ _ (round_sample i) (by omega))
  pointwise [res_main_v9, res_main_call0_v0, res_main_call0_v1, res_main_call0_v6]
  fin_vals i with hi <;> simp only [hi, Nat.reduceSub, Nat.reduceLT, ↓reduceDIte]
  · exact congrArg _ (congrArg _ (point 0 (by decide)))
  · exact congrArg _ (congrArg _ (point 1 (by decide)))
  · refine congrArg _ (congrArg _ (ofBits_last.trans ?_))
    norm_num

/-- The columns of the nine anchors. -/
theorem v10_apply (V0 : Valuation τ sig (Elt Ideal)) (i j : Fin 3) :
    res_main_v10 V0 (ix2 i j) = BitVec.ofNat 32 (sample j) := by
  have hl := sample_lt j
  refine Eq.trans ?_ (rounded _ _ (round_sample j) (by omega))
  pointwise [res_main_v10, res_main_call2_v0, res_main_call2_v1, res_main_call2_v6]
  fin_vals j with hi <;> simp only [hi, Nat.reduceSub, Nat.reduceLT, ↓reduceDIte]
  · exact congrArg _ (congrArg _ (point 0 (by decide)))
  · exact congrArg _ (congrArg _ (point 1 (by decide)))
  · refine congrArg _ (congrArg _ (ofBits_last.trans ?_))
    norm_num

/-- Anchor `k` stands in row `k / 3` and column `k % 3` of the samples. -/
theorem flat_eq (k : Fin 9) : Cert.KernelIdeal.Value.flat k
    = sample ⟨k.val / 3, by omega⟩ * 192 + sample ⟨k.val % 3, by omega⟩ := by
  fin_cases k <;> rfl

/-- The tokens at which the reference's anchors stand. -/
theorem v15_apply (V0 : Valuation τ sig (Elt Ideal)) (k : Fin 9) :
    res_main_v15 V0 (ix1 k) = BitVec.ofNat 32 (Cert.KernelIdeal.Value.flat k) := by
  rw [flat_eq, BitVec.ofNat_add, BitVec.ofNat_mul, ← v9_apply V0 _ ⟨k.val % 3, by omega⟩, ← v10_apply V0 ⟨k.val / 3, by omega⟩]
  pointwise [res_main_v15]
  rfl

/-- A small natural number read back off its word. -/
theorem word_nat (r : ℕ) (h : r < 2 ^ 31) : (BitVec.ofNat 32 r).toInt.toNat = r := by
  rw [BitVec.toInt_ofNat', Int.bmod_eq_of_le (by omega) (by omega)]
  rfl

/-- The gather of grid points at its index: where the words of the row and of the column are numbers of the grid, the
    point there. -/
theorem gather_grid {α : Type} (x : S2x384x192x192.Idx → α) (idx : IVec S3x3x2 32) (b : Fin 2) (c : Fin 384)
    (i j : Fin 3) (r s : Fin 192) (hr : idx (ix3 i j 0) = BitVec.ofNat 32 r.val)
    (hs : idx (ix3 i j 1) = BitVec.ofNat 32 s.val) :
    Host.gather gather_S2x384x192x192_S3x3x2_S2x384x3x3_01_23_n_n_23_2_238411 x idx (ix4 b c i j)
      = x (ix4 b c r s) := by
  have hr' := r.isLt
  have hs' := s.isLt
  unfold Host.gather
  refine congrArg x (funext fun a => Fin.ext ?_)
  have e0 : gather_S2x384x192x192_S3x3x2_S2x384x3x3_01_23_n_n_23_2_238411.siIdx (ix4 b c i j) ⟨0, by decide⟩
      = ix3 i j 0 := funext fun
    | ⟨0, _⟩ => rfl
    | ⟨1, _⟩ => rfl
    | ⟨2, _⟩ => rfl
  have e1 : gather_S2x384x192x192_S3x3x2_S2x384x3x3_01_23_n_n_23_2_238411.siIdx (ix4 b c i j) ⟨1, by decide⟩
      = ix3 i j 1 := funext fun
    | ⟨0, _⟩ => rfl
    | ⟨1, _⟩ => rfl
    | ⟨2, _⟩ => rfl
  match a with
  | ⟨0, _⟩ => exact Nat.zero_add _
  | ⟨1, _⟩ => exact Nat.zero_add _
  | ⟨2, _⟩ =>
    show min (idx (gather_S2x384x192x192_S3x3x2_S2x384x3x3_01_23_n_n_23_2_238411.siIdx (ix4 b c i j)
      ⟨0, by decide⟩)).toInt.toNat 191 + 0 + 0 = r.val
    rw [e0, hr, word_nat _ (by omega)]
    omega
  | ⟨3, _⟩ =>
    show min (idx (gather_S2x384x192x192_S3x3x2_S2x384x3x3_01_23_n_n_23_2_238411.siIdx (ix4 b c i j)
      ⟨1, by decide⟩)).toInt.toNat 191 + 0 + 0 = s.val
    rw [e1, hs, word_nat _ (by omega)]
    omega

/-- A number of the grid is not negative: the reference's wrap leaves its word. -/
theorem wrap_word (r : ℕ) (h : r < 2 ^ 31) (w : BitVec 32) :
    Scalar.select (IntOp.cmpi .slt (BitVec.ofNat 32 r) 0#32) w (BitVec.ofNat 32 r) = BitVec.ofNat 32 r := by
  have e : IntOp.cmpi .slt (BitVec.ofNat 32 r) 0#32 = 0#1 := by
    have h' : (BitVec.ofNat 32 r).slt 0#32 = false := by
      rw [BitVec.slt, BitVec.toInt_ofNat', Int.bmod_eq_of_le (by omega) (by omega)]
      exact decide_eq_false (by simp)
    show BitVec.ofBool ((BitVec.ofNat 32 r).slt 0#32) = 0#1
    rw [h']
    rfl
  rw [e]
  rfl

/-- The anchors stand at tokens of the image. -/
theorem flat_lt (k : Fin 9) : Cert.KernelIdeal.Value.flat k < 36864 := by fin_cases k <;> decide

/-- The reference's anchors are the tokens at their places. -/
theorem v30_apply (V0 : Valuation τ sig (Elt Ideal)) (b : Fin 2) (c : Fin 384) (k : Fin 9) :
    res_main_v30 V0 (ix3 b c k) = res_main_v31 V0 (ix3 b c ⟨Cert.KernelIdeal.Value.flat k, flat_lt k⟩) := by
  have l1 := sample_lt ⟨k.val / 3, by omega⟩
  have l2 := sample_lt ⟨k.val % 3, by omega⟩
  have e : res_main_v31 V0 (ix3 b c ⟨Cert.KernelIdeal.Value.flat k, flat_lt k⟩)
      = res_main_v2 V0 (ix4 b c ⟨sample ⟨k.val / 3, by omega⟩, l1⟩ ⟨sample ⟨k.val % 3, by omega⟩, l2⟩) := by
    have hf := flat_eq k
    pointwise [res_main_v31]
    exact congrArg₂ (fun r s => res_main_v2 V0 (ix4 b c r s)) (Fin.ext (by simp only []; omega))
      (Fin.ext (by simp only []; omega))
  rw [e]
  pointwise [res_main_v30]
  refine gather_grid _ _ _ _ _ _ _ _ ?_ ?_
  · pointwise []
    rw [v9_apply]
    exact wrap_word _ (by omega) _
  · pointwise []
    rw [v10_apply]
    exact wrap_word _ (by omega) _

end Cert.ReferenceIdeal.Value
end
-- ==== Proof.Entry.lean ====
/-
  What the host lines before the launch leave in the four arrays the kernel reads, and so the array the kernel leaves in
  terms of the three arguments.
-/
module

public import proofs.«01_k».proof.Proof.Array
public import proofs.«01_k».proof.Proof.RefAnchors

@[expose] public section

set_option maxRecDepth 16384

noncomputable section

namespace Cert.KernelIdeal.Value

open Cert.KernelIdeal Cert.KernelIdeal.Gen Idealize.ShloMosaic Idealize.ShloMosaic.TcCoe Idealize.SL.Sem
open Cert.ReferenceIdeal.Value (flat_lt word_nat)

/-- The image as tokens: each 2 by 2 patch of a channel becomes four channels, and the grid of patches one axis. -/
def tokens (x : FVec Ideal S2x96x384x384 .f32) : FVec Ideal S2x384x36864 .f32 :=
  shapeCast S2x384x36864 (transpose S2x96x2x2x192x192 [0, 1, 3, 5, 2, 4]
    (shapeCast S2x96x192x2x192x2 x shapeCasts_S2x96x384x384_S2x96x192x2x192x2)
    transposes_S2x96x192x2x192x2_S2x96x2x2x192x192_0_1_3_5_2_4) shapeCasts_S2x96x2x2x192x192_S2x384x36864

/-- The columns of the nine anchors of image `b`. -/
def anchors (T : FVec Ideal S2x384x36864 .f32) (b : Fin 2) (k : Fin 9) (ch : Fin 384) : EReal :=
  T (ix3 b ch ⟨flat k, flat_lt k⟩)

/-- The anchor token `n` of image `b` puts at place `j`. -/
def chosen (T : FVec Ideal S2x384x36864 .f32) (b : Fin 2) (n : Fin 36864) (j : Fin 3) : Fin 9 :=
  nearest (key (anchors T b) (fun ch => T (ix3 b ch n)) n.val) j

/-- The result at channel `o` of token `n`: over the three places and the channels, the weight times the chosen
    anchor's channel, added up, plus the bias. -/
def mixed (T : FVec Ideal S2x384x36864 .f32) (W : FVec Ideal S384x384x3 .f32) (B : FVec Ideal S384 .f32) :
    FVec Ideal S2x384x36864 .f32 := fun y =>
  ∑ j : Fin 3, ∑ ch : Fin 384, W (ix3 (y 1) ch j) * anchors T (y 0) (chosen T (y 0) (y 2) j) ch + B (ix1 (y 1))

/-- The gather of tokens at its index: where the word is a token's number, that token. -/
theorem gather_tokens {α : Type} (x : S2x384x36864.Idx → α) (idx : IVec S9x1 32) (b : Fin 2) (ch : Fin 384)
    (k : Fin 9) (n : Fin 36864) (h : idx (ix2 k 0) = BitVec.ofNat 32 n.val) :
    Host.gather gather_S2x384x36864_S9x1_S2x384x9_01_2_n_n_2_1_23841 x idx (ix3 b ch k) = x (ix3 b ch n) := by
  have hn := n.isLt
  unfold Host.gather
  refine congrArg x (funext fun a => Fin.ext ?_)
  have e : gather_S2x384x36864_S9x1_S2x384x9_01_2_n_n_2_1_23841.siIdx (ix3 b ch k) ⟨0, by decide⟩ = ix2 k 0 :=
    funext fun
    | ⟨0, _⟩ => rfl
    | ⟨1, _⟩ => rfl
  match a with
  | ⟨0, _⟩ => exact Nat.zero_add _
  | ⟨1, _⟩ => exact Nat.zero_add _
  | ⟨2, _⟩ =>
    show min (idx (gather_S2x384x36864_S9x1_S2x384x9_01_2_n_n_2_1_23841.siIdx (ix3 b ch k)
      ⟨0, by decide⟩)).toInt.toNat 36863 + 0 + 0 = n.val
    rw [e, h, word_nat _ (by omega)]
    omega

variable (m : (ℓ : Loc nD τ sig) → Buf (Elt Ideal) ℓ) (c : Dev nD)

/-- The tokens the kernel reads. -/
theorem v2_eq : V m c main_v2 = tokens (m ((c : Thread nD τ).loc main_arg0)) := by
  show StableHlo.after (List.flatten [hostOps0]) (fun b => m (c, b)) (Proc.devRef .tc main_v2) = _
  simp only [List.flatten_cons, List.flatten_nil, List.append_nil, hostOps0]
  entry_read
  rfl

/-- The anchors the kernel reads. -/
theorem v7_apply (b : Fin 2) (ch : Fin 384) (k : Fin 9) :
    V m c main_v7 (ix3 b ch k) = anchors (tokens (m ((c : Thread nD τ).loc main_arg0))) b k ch := by
  show StableHlo.after (List.flatten [hostOps0]) (fun b => m (c, b)) (Proc.devRef .tc main_v7) _ = _
  simp only [List.flatten_cons, List.flatten_nil, List.append_nil, hostOps0]
  entry_read
  refine (gather_tokens _ _ b ch k ⟨flat k, flat_lt k⟩ ?_).trans rfl
  fin_cases k <;> rfl

/-- The weights the kernel reads: one matrix per place. -/
theorem v8_apply (j : Fin 3) (o ch : Fin 384) :
    V m c main_v8 (ix3 j o ch) = m ((c : Thread nD τ).loc main_arg1) (ix3 o ch j) := by
  show StableHlo.after (List.flatten [hostOps0]) (fun b => m (c, b)) (Proc.devRef .tc main_v8) _ = _
  simp only [List.flatten_cons, List.flatten_nil, List.append_nil, hostOps0]
  entry_read
  pointwise []

/-- The bias the kernel reads. -/
theorem v9_apply (o : Fin 384) :
    V m c main_v9 (ix2 o 0) = m ((c : Thread nD τ).loc main_arg2) (ix1 o) := by
  show StableHlo.after (List.flatten [hostOps0]) (fun b => m (c, b)) (Proc.devRef .tc main_v9) _ = _
  simp only [List.flatten_cons, List.flatten_nil, List.append_nil, hostOps0]
  entry_read
  pointwise []

/-- The array the kernel leaves, of the three arguments. -/
theorem arr_mixed : (dats m 0 c).arrAt 4 cfg0.N = mixed (tokens (m ((c : Thread nD τ).loc main_arg0)))
    (m ((c : Thread nD τ).loc main_arg1)) (m ((c : Thread nD τ).loc main_arg2)) := by
  have h (b : Fin 2) (o : Fin 384) (n : Fin 36864) :
      result (V m c main_v2) (V m c main_v7) (V m c main_v8) (V m c main_v9) b o n
        = mixed (tokens (m ((c : Thread nD τ).loc main_arg0))) (m ((c : Thread nD τ).loc main_arg1))
          (m ((c : Thread nD τ).loc main_arg2)) (ix3 b o n) := by
    refine congrArg₂ (· + ·) (Finset.sum_congr rfl fun j _ => Finset.sum_congr rfl fun ch _ =>
      congrArg₂ (· * ·) (v8_apply m c j o ch) ?_) (v9_apply m c o)
    refine (v7_apply m c b ch _).trans (congrArg (fun d => anchors _ b (nearest d j) ch) ?_)
    exact congrArg₂ (fun A X => key A X n.val) (funext fun k => funext fun c' => v7_apply m c b c' k)
      (funext fun c' => congrFun (v2_eq m c) (ix3 b c' n))
  rw [arr]
  exact funext fun y => h (y 0) (y 1) (y 2)

end Cert.KernelIdeal.Value
end
-- ==== Proof.RefKeys.lean ====
/-
  The keys by which the reference ranks the anchors: the negated distances, with the anchors themselves put above
  everything.
-/
module

public import proofs.«01_k».proof.Proof.Entry
public import Idealize.ShloMosaic.Lib.Routing.OpsSet
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Value (flat dist2 key nearest tokens anchors chosen mixed)

variable (V0 : Valuation τ sig (Elt Ideal))

/-- The tokens of the reference. -/
def toks : FVec Ideal S2x384x36864 .f32 := tokens (V0 (Proc.devRef .tc main_arg0))

/-- They are the kernel's tokens of the same image. -/
theorem v31_eq : res_main_v31 V0 = toks V0 := by
  funext y
  rw [ValueIdx.eq_ix3 y]
  unfold toks
  pointwise [res_main_v31, res_main_v2, tokens]

/-- The reference's anchors are the kernel's. -/
theorem v30_anchors (b : Fin 2) (c : Fin 384) (k : Fin 9) :
    res_main_v30 V0 (ix3 b c k) = anchors (toks V0) b k c := by
  rw [v30_apply, v31_eq]
  rfl

/-- A small natural number read back off its word, with its sign. -/
theorem word_int (r : ℕ) (h : r < 2 ^ 31) : (BitVec.ofNat 32 r).toInt = (r : ℤ) := by
  rw [BitVec.toInt_ofNat', Int.bmod_eq_of_le (by omega) (by omega)]

/-- Update `(b', k')` of the scatter lands where its two words say, in its image. -/
theorem lands (idx : IVec S9x2 32) (b' b : Fin 2) (k' k : Fin 9) (r n : Fin 36864)
    (hr : idx (ix2 k' 0) = BitVec.ofNat 32 r.val) (hk : idx (ix2 k' 1) = BitVec.ofNat 32 k'.val) :
    scatter_S2x36864x9_S9x2_S2x9_0_12_12_1.resultIdx? (ix2 b' k') idx = some (ix3 b n k)
      ↔ b' = b ∧ r = n ∧ k' = k := by
  have e0 : scatter_S2x36864x9_S9x2_S2x9_0_12_12_1.siIdx (ix2 b' k') ⟨0, by decide⟩ = ix2 k' 0 := funext fun
    | ⟨0, _⟩ => rfl
    | ⟨1, _⟩ => rfl
  have e1 : scatter_S2x36864x9_S9x2_S2x9_0_12_12_1.siIdx (ix2 b' k') ⟨1, by decide⟩ = ix2 k' 1 := funext fun
    | ⟨0, _⟩ => rfl
    | ⟨1, _⟩ => rfl
  have w0 : scatter_S2x36864x9_S9x2_S2x9_0_12_12_1.start (ix2 b' k') idx 1 = (r.val : ℤ) := by
    show (idx (scatter_S2x36864x9_S9x2_S2x9_0_12_12_1.siIdx (ix2 b' k') ⟨0, by decide⟩)).toInt = _
    rw [e0, hr]
    exact word_int _ (by omega)
  have w1 : scatter_S2x36864x9_S9x2_S2x9_0_12_12_1.start (ix2 b' k') idx 2 = (k'.val : ℤ) := by
    show (idx (scatter_S2x36864x9_S9x2_S2x9_0_12_12_1.siIdx (ix2 b' k') ⟨1, by decide⟩)).toInt = _
    rw [e1, hk]
    exact word_int _ (by omega)
  rw [Routing.resultIdx?_eq_some]
  refine ⟨fun h => ?_, ?_⟩
  · have h0 : (0 : ℤ) + (b'.val : ℤ) = (b.val : ℤ) := h 0
    have h1 : _ + ((0 : ℕ) : ℤ) = (n.val : ℤ) := h 1
    have h2 : _ + ((0 : ℕ) : ℤ) = (k.val : ℤ) := h 2
    rw [w0] at h1
    rw [w1] at h2
    exact ⟨Fin.ext (by omega), Fin.ext (by omega), Fin.ext (by omega)⟩
  · rintro ⟨rfl, rfl, rfl⟩ a
    match a with
    | ⟨0, _⟩ => exact Int.zero_add _
    | ⟨1, _⟩ => exact (Int.add_zero _).trans w0
    | ⟨2, _⟩ => exact (Int.add_zero _).trans w1

/-- The negated distances, with the anchors themselves above everything. -/
theorem v64_apply (b : Fin 2) (n : Fin 36864) (k : Fin 9) : res_main_v64 V0 (ix3 b n k)
    = -(if n.val = flat k then ⊥ else Ideal.sqrt (dist2 (fun c => toks V0 (ix3 b c n)) (anchors (toks V0) b k))) := by
  pointwise [res_main_v64]
  refine congrArg (fun z : EReal => -z) ?_
  generalize hI : concatenate S9x2 1 _ _ = I
  have hr (k : Fin 9) : I (ix2 k 0) = BitVec.ofNat 32 (⟨flat k, flat_lt k⟩ : Fin 36864).val := by
    have := flat_lt k
    rw [← hI]
    pointwise []
    rw [v15_apply]
    exact wrap_word _ (by omega) _
  have hk (k : Fin 9) : I (ix2 k 1) = BitVec.ofNat 32 k.val := by
    rw [← hI]
    pointwise [res_main_v48]
    exact wrap_word _ (by omega) _
  have L (b' : Fin 2) (k' : Fin 9) := lands I b' b k' k ⟨flat k', flat_lt k'⟩ n (hr k') (hk k')
  split
  · next h =>
    refine Routing.scatter_set_hit _ _ _ _ _ _ (fun u _ => ?_) (ix2 b k) ((L b k).2 ⟨rfl, Fin.ext h.symm, rfl⟩)
    exact Cert.KernelIdeal.Value.ofBits_neg_inf
  · next h =>
    rw [Routing.scatter_set_miss]
    · pointwise []
      refine congrArg Ideal.sqrt (congrArg (fun z => max z 0) (congrArg₂ (· - ·) (congrArg₂ (· + ·)
        (Finset.sum_congr rfl fun c _ => ?_) (Finset.sum_congr rfl fun c _ => ?_))
        (congrArg₂ (· * ·) Cert.KernelIdeal.Value.ofBits_two (Finset.sum_congr rfl fun c _ => ?_))))
      · rw [v31_eq]
      · rw [v30_anchors]
      · rw [v31_eq, v30_anchors]
        exact mul_comm _ _
    · intro u hu
      rw [ValueIdx.eq_ix2 u] at hu
      obtain ⟨-, h1, h2⟩ := (L _ _).1 hu
      exact h (by rw [← h2]; exact (congrArg Fin.val h1).symm)

/-- The root of a number not below zero is above the least extended real. -/
theorem bot_lt_sqrt (x : EReal) (hx : 0 ≤ x) : ⊥ < Ideal.sqrt x := by
  induction x with
  | bot => exact absurd hx (by simp)
  | top => simp
  | coe r =>
    have hr : ¬ r < 0 := not_lt.2 (by exact_mod_cast hx)
    rw [Ideal.sqrt_coe, if_neg hr]
    exact EReal.bot_lt_coe _

/-- Roots of numbers not below zero are ordered as the numbers. -/
theorem sqrt_lt (x y : EReal) (hx : 0 ≤ x) (hy : 0 ≤ y) : Ideal.sqrt x < Ideal.sqrt y ↔ x < y := by
  induction x with
  | bot => exact absurd hx (by simp)
  | top => simp
  | coe r =>
    have hr : 0 ≤ r := by exact_mod_cast hx
    induction y with
    | bot => exact absurd hy (by simp)
    | top => simp [Ideal.sqrt_coe, not_lt.2 hr]
    | coe t =>
      have ht : 0 ≤ t := by exact_mod_cast hy
      rw [Ideal.sqrt_coe, if_neg (not_lt.2 hr), Ideal.sqrt_coe, if_neg (not_lt.2 ht), EReal.coe_lt_coe_iff,
        EReal.coe_lt_coe_iff, Real.sqrt_lt_sqrt_iff hr]

/-- "Greater" of the negated distances is "less" of the keys. -/
theorem gt_key (p p' : Prop) [Decidable p] [Decidable p'] (d d' : EReal) (h : 0 ≤ d) (h' : 0 ≤ d') :
    (FloatOps.cmpfTotal (F := Ideal) (φ := .f32) .gt (-(if p then ⊥ else Ideal.sqrt d) : EReal)
      (-(if p' then ⊥ else Ideal.sqrt d') : EReal) == 1#1)
      = decide ((if p then ⊥ else d) < (if p' then ⊥ else d')) := by
  have e (x y : EReal) : (FloatOps.cmpfTotal (F := Ideal) (φ := .f32) .gt x y == 1#1) = decide (y < x) := by
    show (BitVec.ofBool (decide (y < x)) == 1#1) = _
    by_cases q : y < x <;> simp [q]
  have e' (z w : EReal) : (-w < -z) ↔ z < w := EReal.neg_lt_neg_iff
  rw [e, decide_eq_decide, e']
  have hb := bot_lt_sqrt d' h'
  by_cases hp : p <;> by_cases hp' : p' <;> simp only [hp, hp', if_true, if_false]
  · exact ⟨fun _ => lt_of_lt_of_le (by simp) h', fun _ => hb⟩
  · simp
  · exact sqrt_lt d d' h h'

/-- A squared distance is not below zero, as it is cut off there. -/
theorem dist2_nonneg (x a : Fin 384 → EReal) : 0 ≤ dist2 x a := le_max_right _ _

/-- The places of a choice of the three greatest along the last axis: those of the stable sort of the row. -/
theorem topK_row {α : Type} (gt : α → α → BitVec 1) (x : S2x36864x9.Idx → α) (b : Fin 2) (n : Fin 36864) (j : Fin 3) :
    (Host.topK S2x36864x3 2 gt x sliceFits_S2x36864x9_S2x36864x3).2 (ix3 b n j)
      = BitVec.ofNat 32 (sortedFrom (fun k k' : Fin 9 => gt (x (ix3 b n k)) (x (ix3 b n k')) == 1#1)
          (j.castLE (by decide))).val := by
  have a (k : Fin 9) : Shape.Idx.along (s := S2x36864x9) (ix3 b n (j.castLE (by decide))) 2 k = ix3 b n k := by
    funext i
    match i with
    | ⟨0, _⟩ => rfl
    | ⟨1, _⟩ => rfl
    | ⟨2, _⟩ => rfl
  have h2 : 2 < S2x36864x9.rank := by decide
  have q (f : S2x36864x9.Idx → BitVec 32) : extractStridedSlice S2x36864x3 (fun _ => 0) f
      sliceFits_S2x36864x9_S2x36864x3 (ix3 b n j) = f (ix3 b n (j.castLE (by decide))) := by
    unfold extractStridedSlice
    refine congrArg f (funext fun i => Fin.ext ?_)
    match i with
    | ⟨0, _⟩ => exact Nat.zero_add _
    | ⟨1, _⟩ => exact Nat.zero_add _
    | ⟨2, _⟩ => exact Nat.zero_add _
  unfold Host.topK Host.sort2
  simp only [h2, ↓reduceDIte]
  refine (q _).trans ?_
  refine Eq.trans ?_ (congrArg (fun r : Fin 9 → Fin 9 → Bool => BitVec.ofNat 32 (sortedFrom r
    (j.castLE (by decide))).val) (funext fun k => funext fun k' => congrArg₂ (fun u v => gt (x u) (x v) == 1#1)
      (a k) (a k')))
  rfl

/-- The index the reference takes at place `j`: the anchor chosen there. -/
theorem topK_apply (b : Fin 2) (n : Fin 36864) (j : Fin 3) :
    (Host.topK S2x36864x3 2 (FloatOps.cmpfTotal .gt) (res_main_v64 V0) sliceFits_S2x36864x9_S2x36864x3).2 (ix3 b n j)
      = BitVec.ofNat 32 (chosen (toks V0) b n j).val := by
  refine (topK_row _ _ b n j).trans ?_
  refine congrArg (fun r : Fin 9 → Fin 9 → Bool => BitVec.ofNat 32 (sortedFrom r (j.castLE (by decide))).val) ?_
  funext k k'
  rw [v64_apply, v64_apply]
  exact gt_key _ _ _ _ (dist2_nonneg _ _) (dist2_nonneg _ _)

end Cert.ReferenceIdeal.Value
end
-- ==== Proof.RefResult.lean ====
/-
  The reference's result, of the three arguments.
-/
module

public import proofs.«01_k».proof.Proof.RefKeys
public import Idealize.ShloMosaic.Lib.ReduceAll

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Value (flat dist2 key nearest tokens anchors chosen mixed)

variable (V0 : Valuation τ sig (Elt Ideal))

/-- Place `3 n + j` of the flattened indices: place `j` of token `n`. -/
def spot (n : Fin 36864) (j : Fin 3) : Fin 110592 := ⟨n.val * 3 + j.val, by omega⟩

/-- The index words, flattened. -/
theorem v67_apply (b : Fin 2) (c : Fin 384) (n : Fin 36864) (j : Fin 3) :
    res_main_v67 V0 (ix3 b c (spot n j)) = BitVec.ofNat 32 (chosen (toks V0) b n j).val := by
  rw [← topK_apply]
  generalize hT : (Host.topK S2x36864x3 2 (FloatOps.cmpfTotal .gt) (res_main_v64 V0) sliceFits_S2x36864x9_S2x36864x3).2 = T
  unfold res_main_v67
  rw [hT]
  pointwise [spot]

/-- The index words the gather reads. -/
theorem index_apply (b : Fin 2) (c : Fin 384) (n : Fin 36864) (j : Fin 3) :
    res_main_call4_v5 V0 (ix4 b c (spot n j) 0) = BitVec.ofNat 32 (chosen (toks V0) b n j).val := by
  pointwise [res_main_call4_v5]
  rw [v67_apply]
  exact wrap_word _ (by omega) _

/-- Every one of them is an anchor's number. -/
theorem index_word (i : S2x384x110592x1.Idx) : ∃ k : Fin 9, res_main_call4_v5 V0 i = BitVec.ofNat 32 k.val := by
  have hq : (i 2).val < 110592 := (i 2).isLt
  have hz : (i 3).val < 1 := (i 3).isLt
  have e : i = ix4 (i 0) (i 1) (spot ⟨(i 2).val / 3, by omega⟩ ⟨(i 2).val % 3, by omega⟩) 0 := by
    funext a
    refine Fin.ext ?_
    match a with
    | ⟨0, _⟩ => rfl
    | ⟨1, _⟩ => rfl
    | ⟨2, _⟩ => exact (by omega : (i 2).val = (i 2).val / 3 * 3 + (i 2).val % 3)
    | ⟨3, _⟩ => exact (by omega : (i 3).val = 0)
  exact ⟨_, (congrArg (res_main_call4_v5 V0) e).trans (index_apply V0 (i 0) (i 1) _ _)⟩

/-- The gather of anchors at its index: where the word is an anchor's number, that anchor of the same image and
    channel. -/
theorem gather_anchor {α : Type} (x : S2x384x9.Idx → α) (idx : IVec S2x384x110592x1 32) (b : Fin 2) (c : Fin 384)
    (q : Fin 110592) (k : Fin 9) (h : idx (ix4 b c q 0) = BitVec.ofNat 32 k.val) :
    Host.gather gather_S2x384x9_S2x384x110592x1_S2x384x110592_n_2_01_01_2_3_111 x idx (ix3 b c q)
      = x (ix3 b c k) := by
  unfold Host.gather
  refine congrArg x (funext fun a => Fin.ext ?_)
  have e : gather_S2x384x9_S2x384x110592x1_S2x384x110592_n_2_01_01_2_3_111.siIdx (ix3 b c q) ⟨0, by decide⟩
      = ix4 b c q 0 := funext fun
    | ⟨0, _⟩ => rfl
    | ⟨1, _⟩ => rfl
    | ⟨2, _⟩ => rfl
    | ⟨3, _⟩ => rfl
  match a with
  | ⟨0, _⟩ => exact Nat.zero_add _
  | ⟨1, _⟩ => exact Nat.zero_add _
  | ⟨2, _⟩ =>
    show min (idx (gather_S2x384x9_S2x384x110592x1_S2x384x110592_n_2_01_01_2_3_111.siIdx (ix3 b c q)
      ⟨0, by decide⟩)).toInt.toNat 8 + 0 + 0 = k.val
    rw [e, h, word_nat _ (by omega)]
    omega

/-- The neighbours the reference gathers, before they are laid out by place. -/
def gathered : FVec Ideal S2x384x110592 .f32 :=
  select (Host.reduce IntOp.andi (andi (cmpi .sge (res_main_call4_v5 V0)
      (broadcastInDim S2x384x110592x1 ![] bcast_S_S2x384x110592x1 (constantI S_ 32 0#32)))
      (cmpi .sle (res_main_call4_v5 V0) (broadcastInDim S2x384x110592x1 ![0, 1, 2, 3]
        bcast_S1x1x1x1_S2x384x110592x1_0_1_2_3 (broadcastInDim S1x1x1x1 ![3] bcast_S1_S1x1x1x1_3
          (constantI S1 32 8#32))))) (constantI S_ 1 1#1) reducesTo_S2x384x110592x1_S2x384x110592_d3 h_S_)
    (Host.gather gather_S2x384x9_S2x384x110592x1_S2x384x110592_n_2_01_01_2_3_111 (res_main_v30 V0)
      (res_main_call4_v5 V0))
    (broadcastInDim S2x384x110592 ![] bcast_S_S2x384x110592 (constant S_ .f32 0x7FC00000#32))

/-- Each index is that of an anchor, so that each neighbour is the anchor chosen. -/
theorem gathered_apply (b : Fin 2) (c : Fin 384) (n : Fin 36864) (j : Fin 3) :
    gathered V0 (ix3 b c (spot n j)) = anchors (toks V0) b (chosen (toks V0) b n j) c := by
  have hg := gather_anchor (res_main_v30 V0) (res_main_call4_v5 V0) b c (spot n j) _ (index_apply V0 b c n j)
  have hm : Host.reduce IntOp.andi (andi (cmpi .sge (res_main_call4_v5 V0)
      (broadcastInDim S2x384x110592x1 ![] bcast_S_S2x384x110592x1 (constantI S_ 32 0#32)))
      (cmpi .sle (res_main_call4_v5 V0) (broadcastInDim S2x384x110592x1 ![0, 1, 2, 3]
        bcast_S1x1x1x1_S2x384x110592x1_0_1_2_3 (broadcastInDim S1x1x1x1 ![3] bcast_S1_S1x1x1x1_3
          (constantI S1 32 8#32))))) (constantI S_ 1 1#1) reducesTo_S2x384x110592x1_S2x384x110592_d3 h_S_
      (ix3 b c (spot n j)) = 1#1 := by
    refine Host.reduce_andi_one _ _ _ _ _ rfl fun i => ?_
    obtain ⟨k, hk⟩ := index_word V0 i
    show IntOp.andi (IntOp.cmpi .sge (res_main_call4_v5 V0 i) 0#32) (IntOp.cmpi .sle (res_main_call4_v5 V0 i) 8#32) = 1#1
    rw [hk]
    fin_cases k <;> rfl
  unfold gathered
  show Scalar.select _ _ _ = _
  rw [hm, hg, v30_anchors]
  rfl

/-- The weights applied to neighbours laid out by token and place, plus the bias. -/
def mixture (G : FVec Ideal S2x384x110592 .f32) (W : FVec Ideal S384x384x3 .f32) (B : FVec Ideal S384 .f32) :
    FVec Ideal S2x384x36864 .f32 :=
  addf (transpose S2x384x36864 [0, 2, 1] (Host.dotGeneral dot_S2x384x36864x3_S384x384x3_S2x36864x384_13_12_02_0_n_n none
      (shapeCast S2x384x36864x3 G shapeCasts_S2x384x110592_S2x384x36864x3) W)
      transposes_S2x36864x384_S2x384x36864_0_2_1)
    (broadcastInDim S2x384x36864 ![0, 1, 2] bcast_S1x384x1_S2x384x36864_0_1_2
      (broadcastInDim S1x384x1 ![1] bcast_S384_S1x384x1_1 B))

/-- The same at an index. -/
theorem mixture_apply (G : FVec Ideal S2x384x110592 .f32) (W : FVec Ideal S384x384x3 .f32) (B : FVec Ideal S384 .f32)
    (b : Fin 2) (o : Fin 384) (n : Fin 36864) : mixture G W B (ix3 b o n)
      = ∑ c : Fin 384, ∑ j : Fin 3, G (ix3 b c (spot n j)) * W (ix3 o c j) + B (ix1 o) := by
  pointwise [mixture, spot]

/-- The reference's array, before it is laid out as an image, is what the kernel computes. -/
theorem mixture_eq (W : FVec Ideal S384x384x3 .f32) (B : FVec Ideal S384 .f32) :
    mixture (gathered V0) W B = mixed (toks V0) W B := by
  have h (b : Fin 2) (o : Fin 384) (n : Fin 36864) :
      mixture (gathered V0) W B (ix3 b o n) = ∑ j : Fin 3, ∑ c : Fin 384,
        W (ix3 o c j) * anchors (toks V0) b (chosen (toks V0) b n j) c + B (ix1 o) := by
    refine (mixture_apply _ W B b o n).trans (congrArg (· + B (ix1 o)) (Finset.sum_comm.trans ?_))
    refine Finset.sum_congr rfl fun j _ => Finset.sum_congr rfl fun c _ => ?_
    rw [gathered_apply]
    exact mul_comm _ _
  funext y
  exact (congrArg (mixture (gathered V0) W B) (ValueIdx.eq_ix3 y)).trans (h (y 0) (y 1) (y 2))

end Cert.ReferenceIdeal.Value
end
-- ==== Proof.Equation.lean ====
/-
  The two programs leave the same array: both lay out the same mixture of chosen anchors as an image.
-/
module

public import proofs.«01_k».proof.Proof.RefResult

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Value (tokens mixed spread)

/-- The reference's layout of tokens as an image. -/
def layout (Y : FVec Ideal S2x384x36864 .f32) : FVec Ideal S2x96x384x384 .f32 :=
  shapeCast S2x96x384x384 (transpose S2x96x192x2x192x2 [0, 1, 4, 2, 5, 3] (shapeCast S2x96x2x2x192x192
    (shapeCast S2x384x192x192 Y shapeCasts_S2x384x36864_S2x384x192x192) shapeCasts_S2x384x192x192_S2x96x2x2x192x192)
    transposes_S2x96x2x2x192x192_S2x96x192x2x192x2_0_1_4_2_5_3) shapeCasts_S2x96x192x2x192x2_S2x96x384x384

/-- It is the kernel's. -/
theorem layout_eq (Y : FVec Ideal S2x384x36864 .f32) : layout Y = spread Y := by
  have h (a : Fin 2) (b : Fin 96) (c d : Fin 384) : layout Y (ix4 a b c d) = spread Y (ix4 a b c d) := by
    pointwise [layout, spread]
  funext y
  refine (congrArg (layout Y) (ValueIdx.eq_ix4 y)).trans ((h (y 0) (y 1) (y 2) (y 3)).trans ?_)
  exact (congrArg (spread Y) (ValueIdx.eq_ix4 y)).symm

/-- Every execution of the reference ends with the result laid out from the mixture of chosen anchors, and the
    arguments unchanged. -/
theorem run_mixed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = spread (mixed (tokens (m ((c.tc : Thread nD τ).loc main_arg0)))
        (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  refine Eq.trans ?_ ((congrArg layout (mixture_eq (StableHlo.launchContents m c)
    (m ((c.tc : Thread nD τ).loc main_arg1)) (m ((c.tc : Thread nD τ).loc main_arg2)))).trans (layout_eq _))
  rfl

end Cert.ReferenceIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference ends with its arguments unchanged and every counter at zero. -/
theorem quiescent_reference : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run m g)

/-- Over the extended reals the kernel and the reference end with the same result. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.spread (Cert.KernelIdeal.Value.mixed
    (Cert.KernelIdeal.Value.tokens (m ((c.tc : Thread Cert.KernelIdeal.nD Cert.KernelIdeal.τ).loc Cert.KernelIdeal.main_arg0)))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))), ?_, ?_⟩
  · exact (θ_run _ _ _).mono (fun r h c => ⟨(h c).1.trans (congrArg Cert.KernelIdeal.Value.spread
      (Cert.KernelIdeal.Value.arr_mixed m c)), (h c).2⟩) (Cert.KernelIdeal.Value.run m g)
  · refine (θ_run _ _ _).mono (fun r h c => ⟨(h c).1.trans ?_, (h c).2⟩) (Cert.ReferenceIdeal.Value.run_mixed m' g')
    obtain ⟨h0, h1, h2⟩ := hagree c
    rw [h0, h1, h2]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial,
  algebraic⟩

end Cert.Proof

end
